-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_grid_coords [hPre_grid_coords : Cert.Pre_grid_coords.Facts] (m : (ℓ : Loc Cert.KernelIdeal.nD Cert.KernelIdeal.τ Cert.KernelIdeal.sig) → Buf (Elt Ideal) ℓ) : Prop :=
  ∀ c : Dev Cert.KernelIdeal.nD,
    (Cert.Pre_grid_coords.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_grid_coords [hPre_grid_coords : Cert.Pre_grid_coords.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_grid_coords.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_grid_coords [hKernelIdeal : Cert.KernelIdeal.Facts] [hPre_grid_coords : Cert.Pre_grid_coords.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_grid_coords m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_grid_coords [hReferenceIdeal : Cert.ReferenceIdeal.Facts] [hPre_grid_coords : Cert.Pre_grid_coords.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_grid_coords m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "dw_clip" .f32 0x40845349#32 ((Real.log (125 / 2) : ℝ) : EReal)

def algebraic_KernelIdeal_ReferenceIdeal_pre_grid_coords [hKernelIdeal : Cert.KernelIdeal.Facts] [hReferenceIdeal : Cert.ReferenceIdeal.Facts] [hPre_grid_coords : Cert.Pre_grid_coords.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_grid_coords m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_grid_coords : Cert.Pre_grid_coords.Facts),
    quiescent_Kernel (hKernel := hKernel)
    ∧ quiescent_KernelIdeal (hKernelIdeal := hKernelIdeal)
    ∧ quiescent_KernelIdeal_pre_grid_coords (hKernelIdeal := hKernelIdeal) (hPre_grid_coords := hPre_grid_coords)
    ∧ quiescent_ReferenceIdeal (hReferenceIdeal := hReferenceIdeal)
    ∧ quiescent_ReferenceIdeal_pre_grid_coords (hReferenceIdeal := hReferenceIdeal) (hPre_grid_coords := hPre_grid_coords)
    ∧ preserves_Kernel_KernelIdeal
    ∧ algebraic_KernelIdeal_ReferenceIdeal_pre_grid_coords (hKernelIdeal := hKernelIdeal) (hReferenceIdeal := hReferenceIdeal) (hPre_grid_coords := hPre_grid_coords)
-- ==== Pre_grid_coords.lean ====
abbrev S36x64x64 : Shape := ⟨3, ![36, 64, 64]⟩
abbrev S4096x2 : Shape := ⟨2, ![4096, 2]⟩
abbrev S4096x720 : Shape := ⟨2, ![4096, 720]⟩
abbrev S4096x36 : Shape := ⟨2, ![4096, 36]⟩
abbrev S2 : Shape := ⟨1, ![2]⟩
abbrev S_ : Shape := ⟨0, ![]⟩

class Facts : Prop where
  bcast_S_S4096x2 : S_.BroadcastsInDim S4096x2 (![] : Fin 0 → Fin S4096x2.rank)

variable [Facts]

def fn {F : FTy → Type} [FloatOps F] (main_arg0 : FVec F S36x64x64 .f32) (main_arg1 : IVec S4096x2 32) (main_arg2 : FVec F S4096x720 .f32) (main_arg3 : FVec F S4096x36 .f32) (main_arg4 : IVec S2 32) : IVec S4096x2 1 :=
  let main_v0 : IVec S4096x2 32 := iotaInDim S4096x2 32 0
  let main_v1 : IVec S4096x2 32 := iotaInDim S4096x2 32 1
  let main_c : IVec S_ 32 := constantI S_ 32 64#32
  let main_v2 : IVec S4096x2 32 := broadcastInDim S4096x2 ![] bcast_S_S4096x2 main_c
  let main_v3 : IVec S4096x2 32 := Host.divsi main_v0 main_v2
  let main_c_0 : IVec S_ 32 := constantI S_ 32 64#32
  let main_v4 : IVec S4096x2 32 := broadcastInDim S4096x2 ![] bcast_S_S4096x2 main_c_0
  let main_v5 : IVec S4096x2 32 := Host.remsi main_v0 main_v4
  let main_c_1 : IVec S_ 32 := constantI S_ 32 0#32
  let main_v6 : IVec S4096x2 32 := broadcastInDim S4096x2 ![] bcast_S_S4096x2 main_c_1
  let main_v7 : IVec S4096x2 1 := cmpi .eq main_v1 main_v6
  let main_v8 : IVec S4096x2 32 := select main_v7 main_v3 main_v5
  let main_v9 : IVec S4096x2 1 := cmpi .eq main_arg1 main_v8
  main_v9
-- ==== Kernel.lean ====
abbrev S36x64x64 : Shape := ⟨3, ![36, 64, 64]⟩
abbrev S4096x2 : Shape := ⟨2, ![4096, 2]⟩
abbrev S4096x720 : Shape := ⟨2, ![4096, 720]⟩
abbrev S4096x36 : Shape := ⟨2, ![4096, 36]⟩
abbrev S2 : Shape := ⟨1, ![2]⟩
abbrev S64x64x36 : Shape := ⟨3, ![64, 64, 36]⟩
abbrev S4096x9 : Shape := ⟨2, ![4096, 9]⟩
abbrev S1x2 : Shape := ⟨2, ![1, 2]⟩
abbrev S2949120 : Shape := ⟨1, ![2949120]⟩
abbrev S1024 : Shape := ⟨1, ![1024]⟩
abbrev S1024x1 : Shape := ⟨2, ![1024, 1]⟩
abbrev S8x128 : Shape := ⟨2, ![8, 128]⟩
abbrev S1024x1024 : Shape := ⟨2, ![1024, 1024]⟩
abbrev S1x1 : Shape := ⟨2, ![1, 1]⟩
abbrev S1024x36 : Shape := ⟨2, ![1024, 36]⟩
abbrev S1x1024 : Shape := ⟨2, ![1, 1024]⟩
abbrev S1x36 : Shape := ⟨2, ![1, 36]⟩
abbrev S1x1024x1 : Shape := ⟨3, ![1, 1024, 1]⟩
abbrev S1 : Shape := ⟨1, ![1]⟩
abbrev S1x1x1 : Shape := ⟨3, ![1, 1, 1]⟩
abbrev S1x1x1024 : Shape := ⟨3, ![1, 1, 1024]⟩
abbrev S3x1024 : Shape := ⟨2, ![3, 1024]⟩
abbrev S8x1024 : Shape := ⟨2, ![8, 1024]⟩
abbrev S1x128 : Shape := ⟨2, ![1, 128]⟩
abbrev S8 : Shape := ⟨1, ![8]⟩
abbrev S8x1 : Shape := ⟨2, ![8, 1]⟩
abbrev S4x1 : Shape := ⟨2, ![4, 1]⟩
abbrev S2x1 : Shape := ⟨2, ![2, 1]⟩
abbrev S128x8 : Shape := ⟨2, ![128, 8]⟩
abbrev S100x6 : Shape := ⟨2, ![100, 6]⟩

abbrev nBuf : Space → Nat
  | .hbm => 25
  | .vmem => 13
  | .smem => 0
  | _ => 0

abbrev bufTy : (tb : Table) → Fin (tcTables nBuf tb) → BufTy
  | .hbm, ⟨0, _⟩ => ⟨S36x64x64, .f32⟩
  | .hbm, ⟨1, _⟩ => ⟨S4096x2, .i32⟩
  | .hbm, ⟨2, _⟩ => ⟨S4096x720, .f32⟩
  | .hbm, ⟨3, _⟩ => ⟨S4096x36, .f32⟩
  | .hbm, ⟨4, _⟩ => ⟨S2, .i32⟩
  | .hbm, ⟨5, _⟩ => ⟨S64x64x36, .f32⟩
  | .hbm, ⟨6, _⟩ => ⟨S4096x36, .f32⟩
  | .hbm, ⟨7, _⟩ => ⟨S4096x9, .f32⟩
  | .hbm, ⟨8, _⟩ => ⟨S4096x9, .f32⟩
  | .hbm, ⟨9, _⟩ => ⟨S4096x9, .f32⟩
  | .hbm, ⟨10, _⟩ => ⟨S4096x9, .f32⟩
  | .hbm, ⟨11, _⟩ => ⟨S4096x9, .f32⟩
  | .hbm, ⟨12, _⟩ => ⟨S4096x9, .f32⟩
  | .hbm, ⟨13, _⟩ => ⟨S4096x9, .f32⟩
  | .hbm, ⟨14, _⟩ => ⟨S4096x9, .f32⟩
  | .hbm, ⟨15, _⟩ => ⟨S2, .f32⟩
  | .hbm, ⟨16, _⟩ => ⟨S1x2, .f32⟩
  | .hbm, ⟨17, _⟩ => ⟨S2949120, .f32⟩
  | .hbm, ⟨18, _⟩ => ⟨S1024, .f32⟩
  | .hbm, ⟨19, _⟩ => ⟨S1024, .i32⟩
  | .hbm, ⟨20, _⟩ => ⟨S1024x1, .i32⟩
  | .hbm, ⟨21, _⟩ => ⟨S1024x1, .f32⟩
  | .hbm, ⟨22, _⟩ => ⟨S8x128, .f32⟩
  | .hbm, ⟨23, _⟩ => ⟨S128x8, .f32⟩
  | .hbm, ⟨24, _⟩ => ⟨S100x6, .f32⟩
  | .local _ .vmem, ⟨0, _⟩ => ⟨S1024x1, .i32⟩
  | .local _ .vmem, ⟨1, _⟩ => ⟨S1024x1, .f32⟩
  | .local _ .vmem, ⟨2, _⟩ => ⟨S4096x9, .f32⟩
  | .local _ .vmem, ⟨3, _⟩ => ⟨S4096x9, .f32⟩
  | .local _ .vmem, ⟨4, _⟩ => ⟨S4096x9, .f32⟩
  | .local _ .vmem, ⟨5, _⟩ => ⟨S4096x9, .f32⟩
  | .local _ .vmem, ⟨6, _⟩ => ⟨S4096x9, .f32⟩
  | .local _ .vmem, ⟨7, _⟩ => ⟨S4096x9, .f32⟩
  | .local _ .vmem, ⟨8, _⟩ => ⟨S4096x9, .f32⟩
  | .local _ .vmem, ⟨9, _⟩ => ⟨S4096x9, .f32⟩
  | .local _ .vmem, ⟨10, _⟩ => ⟨S1x2, .f32⟩
  | .local _ .vmem, ⟨11, _⟩ => ⟨S8x128, .f32⟩
  | .local _ .vmem, ⟨12, _⟩ => ⟨S1024x1024, .f32⟩
  | _, _ => ⟨S36x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_values : Ref sig .tc := ⟨.hbm, 18, rfl⟩
abbrev main_indices : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

@[reducible] def k0_t1_loop : Scf.Loop 32 :=
  let c0_i32_94 : BitVec 32 := 0#32
  let c500_i32 : BitVec 32 := 500#32
  let v351 : BitVec 32 := Scalar.addi c0_i32_94 c500_i32
  let c1_i32_95 : BitVec 32 := 1#32
  ⟨c0_i32_94, v351, c1_i32_95⟩
def k0_off1 (k0_t1 : Fin k0_t1_loop.trips) : Fin 2 → Nat :=
  let c2_i32_107 : BitVec 32 := 2#32
  let c0_i32_94 : BitVec 32 := 0#32
  let c1_i32_95 : BitVec 32 := 1#32
  let arg13 : BitVec 32 := Scf.iv c0_i32_94 c1_i32_95 k0_t1
  let v374 : BitVec 32 := Scalar.muli c2_i32_107 arg13
  let v385 : Index := Scalar.indexCast v374
  let c0_111 : Index := 0#32
  ![v385.toNat, 0]
def k0_off2 (k0_t1 : Fin k0_t1_loop.trips) : Fin 2 → Nat :=
  let c2_i32 : BitVec 32 := 2#32
  let c0_i32_94 : BitVec 32 := 0#32
  let c1_i32_95 : BitVec 32 := 1#32
  let arg13 : BitVec 32 := Scf.iv c0_i32_94 c1_i32_95 k0_t1
  let v372 : BitVec 32 := Scalar.muli c2_i32 arg13
  let c1_i32_106 : BitVec 32 := 1#32
  let v373 : BitVec 32 := Scalar.addi v372 c1_i32_106
  let v402 : Index := Scalar.indexCast v373
  let c0_116 : Index := 0#32
  ![v402.toNat, 0]
@[reducible] def k0_t2_loop : Scf.Loop 32 :=
  let c0_i32_101 : BitVec 32 := 0#32
  let c100_i32 : BitVec 32 := 100#32
  let v369 : BitVec 32 := Scalar.addi c0_i32_101 c100_i32
  let c1_i32_102 : BitVec 32 := 1#32
  ⟨c0_i32_101, v369, c1_i32_102⟩
abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x9 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x9 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x9 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x9 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x9 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== KernelIdeal.lean ====
variable {F : FTy → Type} [FloatOps F] [Named F]
def κ : String → Option EReal := fun
  | "dw_clip" => some ((Real.log (125 / 2) : ℝ) : EReal)
  | _ => none
-- ==== ReferenceIdeal.lean ====
abbrev S36x64x64 : Shape := ⟨3, ![36, 64, 64]⟩
abbrev S4096x2 : Shape := ⟨2, ![4096, 2]⟩
abbrev S4096x720 : Shape := ⟨2, ![4096, 720]⟩
abbrev S4096x36 : Shape := ⟨2, ![4096, 36]⟩
abbrev S2 : Shape := ⟨1, ![2]⟩
abbrev S64x64x36 : Shape := ⟨3, ![64, 64, 36]⟩
abbrev S4096x1 : Shape := ⟨2, ![4096, 1]⟩
abbrev S4096 : Shape := ⟨1, ![4096]⟩
abbrev S_ : Shape := ⟨0, ![]⟩
abbrev S36864x80 : Shape := ⟨2, ![36864, 80]⟩
abbrev S36864x4 : Shape := ⟨2, ![36864, 4]⟩
abbrev S36864x1 : Shape := ⟨2, ![36864, 1]⟩
abbrev S36864 : Shape := ⟨1, ![36864]⟩
abbrev S1 : Shape := ⟨1, ![1]⟩
abbrev S2949120 : Shape := ⟨1, ![2949120]⟩
abbrev S1000 : Shape := ⟨1, ![1000]⟩
abbrev S1000x1 : Shape := ⟨2, ![1000, 1]⟩
abbrev S1000x4 : Shape := ⟨2, ![1000, 4]⟩
abbrev S1x1000 : Shape := ⟨2, ![1, 1000]⟩
abbrev S1000x1000 : Shape := ⟨2, ![1000, 1000]⟩
abbrev S100 : Shape := ⟨1, ![100]⟩
abbrev S100x1 : Shape := ⟨2, ![100, 1]⟩
abbrev S100x4 : Shape := ⟨2, ![100, 4]⟩
abbrev S100x6 : Shape := ⟨2, ![100, 6]⟩

abbrev nBuf : Space → Nat
  | .hbm => 328
  | .vmem => 0
  | .smem => 0
  | _ => 0

abbrev hbmTy0_0 (i : Nat) : BufTy := match i % 128 with
  | 0 => ⟨S36x64x64, .f32⟩
  | 1 => ⟨S4096x2, .i32⟩
  | 2 => ⟨S4096x720, .f32⟩
  | 3 => ⟨S4096x36, .f32⟩
  | 4 => ⟨S2, .i32⟩
  | 5 => ⟨S64x64x36, .f32⟩
  | 6 => ⟨S4096x1, .i32⟩
  | 7 => ⟨S4096, .i32⟩
  | 8 => ⟨S4096x1, .i32⟩
  | 9 => ⟨S4096, .i32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S4096, .i32⟩
  | 24 => ⟨S4096x1, .i32⟩
  | 25 => ⟨S4096x1, .i32⟩
  | 26 => ⟨S4096x2, .i32⟩
  | 27 => ⟨S4096x36, .f32⟩
  | 28 => ⟨S36864x80, .f32⟩
  | 29 => ⟨S36864x80, .f32⟩
  | 30 => ⟨S36864x80, .f32⟩
  | 31 => ⟨S_, .f32⟩
  | 32 => ⟨S36864x80, .f32⟩
  | 33 => ⟨S36864x80, .f32⟩
  | 34 => ⟨S_, .f32⟩
  | 35 => ⟨S36864x80, .f32⟩
  | 36 => ⟨S36864x80, .f32⟩
  | 37 => ⟨S36864x4, .f32⟩
  | 38 => ⟨S36864x4, .f32⟩
  | 39 => ⟨S36864x1, .f32⟩
  | 40 => ⟨S36864, .f32⟩
  | 41 => ⟨S36864x1, .f32⟩
  | 42 => ⟨S36864, .f32⟩
  | 43 => ⟨S36864, .f32⟩
  | 44 => ⟨S36864x1, .f32⟩
  | 45 => ⟨S36864, .f32⟩
  | 46 => ⟨S36864x1, .f32⟩
  | 47 => ⟨S36864, .f32⟩
  | 48 => ⟨S36864, .f32⟩
  | 49 => ⟨S36864x1, .f32⟩
  | 50 => ⟨S36864, .f32⟩
  | 51 => ⟨S_, .f32⟩
  | 52 => ⟨S36864, .f32⟩
  | 53 => ⟨S36864, .f32⟩
  | 54 => ⟨S36864, .f32⟩
  | 55 => ⟨S36864x1, .f32⟩
  | 56 => ⟨S36864, .f32⟩
  | 57 => ⟨S_, .f32⟩
  | 58 => ⟨S36864, .f32⟩
  | 59 => ⟨S36864, .f32⟩
  | 60 => ⟨S36864, .f32⟩
  | 61 => ⟨S36864x1, .f32⟩
  | 62 => ⟨S36864, .f32⟩
  | 63 => ⟨S36864x1, .f32⟩
  | 64 => ⟨S36864, .f32⟩
  | 65 => ⟨S_, .f32⟩
  | 66 => ⟨S_, .f32⟩
  | 67 => ⟨S36864x1, .f32⟩
  | 68 => ⟨S36864, .f32⟩
  | 69 => ⟨S36864, .f32⟩
  | 70 => ⟨S36864, .f32⟩
  | 71 => ⟨S36864x1, .f32⟩
  | 72 => ⟨S36864, .f32⟩
  | 73 => ⟨S36864, .f32⟩
  | 74 => ⟨S36864, .f32⟩
  | 75 => ⟨S36864, .f32⟩
  | 76 => ⟨S36864, .f32⟩
  | 77 => ⟨S36864, .f32⟩
  | 78 => ⟨S36864, .f32⟩
  | 79 => ⟨S36864, .f32⟩
  | 80 => ⟨S36864, .f32⟩
  | 81 => ⟨S36864, .f32⟩
  | 82 => ⟨S36864, .f32⟩
  | 83 => ⟨S1, .i32⟩
  | 84 => ⟨S_, .i32⟩
  | 85 => ⟨S_, .f32⟩
  | 86 => ⟨S1, .i32⟩
  | 87 => ⟨S_, .i32⟩
  | 88 => ⟨S_, .f32⟩
  | 89 => ⟨S_, .f32⟩
  | 90 => ⟨S36864, .f32⟩
  | 91 => ⟨S36864, .f32⟩
  | 92 => ⟨S36864, .f32⟩
  | 93 => ⟨S_, .f32⟩
  | 94 => ⟨S_, .f32⟩
  | 95 => ⟨S36864, .f32⟩
  | 96 => ⟨S36864, .f32⟩
  | 97 => ⟨S36864, .f32⟩
  | 98 => ⟨S36864, .f32⟩
  | 99 => ⟨S_, .f32⟩
  | 100 => ⟨S36864, .f32⟩
  | 101 => ⟨S36864, .f32⟩
  | 102 => ⟨S36864, .f32⟩
  | 103 => ⟨S_, .f32⟩
  | 104 => ⟨S_, .f32⟩
  | 105 => ⟨S36864, .f32⟩
  | 106 => ⟨S36864, .f32⟩
  | 107 => ⟨S36864, .f32⟩
  | 108 => ⟨S36864, .f32⟩
  | 109 => ⟨S_, .f32⟩
  | 110 => ⟨S36864, .f32⟩
  | 111 => ⟨S36864, .f32⟩
  | 112 => ⟨S36864, .f32⟩
  | 113 => ⟨S_, .f32⟩
  | 114 => ⟨S_, .f32⟩
  | 115 => ⟨S36864, .f32⟩
  | 116 => ⟨S36864, .f32⟩
  | 117 => ⟨S36864, .f32⟩
  | 118 => ⟨S36864, .f32⟩
  | 119 => ⟨S_, .f32⟩
  | 120 => ⟨S36864, .f32⟩
  | 121 => ⟨S36864, .f32⟩
  | 122 => ⟨S36864, .f32⟩
  | 123 => ⟨S_, .f32⟩
  | 124 => ⟨S_, .f32⟩
  | 125 => ⟨S36864, .f32⟩
  | 126 => ⟨S36864, .f32⟩
  | 127 => ⟨S36864, .f32⟩
  | _ => ⟨S36x64x64, .f32⟩

abbrev hbmTy0_1 (i : Nat) : BufTy := match i % 128 with
  | 0 => ⟨S36864, .f32⟩
  | 1 => ⟨S36864x1, .f32⟩
  | 2 => ⟨S36864x1, .f32⟩
  | 3 => ⟨S36864x1, .f32⟩
  | 4 => ⟨S36864x1, .f32⟩
  | 5 => ⟨S36864x4, .f32⟩
  | 6 => ⟨S2949120, .f32⟩
  | 7 => ⟨S1000, .f32⟩
  | 8 => ⟨S1000, .i32⟩
  | 9 => ⟨S_, .i32⟩
  | 10 => ⟨S1000, .i32⟩
  | 11 => ⟨S1000, .i32⟩
  | 12 => ⟨S_, .i32⟩
  | 13 => ⟨S1000, .i32⟩
  | 14 => ⟨S1000, .i1⟩
  | 15 => ⟨S_, .i32⟩
  | 16 => ⟨S1000, .i32⟩
  | 17 => ⟨S1000, .i32⟩
  | 18 => ⟨S1000, .i32⟩
  | 19 => ⟨S1000x1, .i32⟩
  | 20 => ⟨S1000x4, .f32⟩
  | 21 => ⟨S_, .i32⟩
  | 22 => ⟨S1000, .i32⟩
  | 23 => ⟨S1000, .i32⟩
  | 24 => ⟨S1000, .f32⟩
  | 25 => ⟨S_, .f32⟩
  | 26 => ⟨S1000, .f32⟩
  | 27 => ⟨S1000, .i1⟩
  | 28 => ⟨S_, .f32⟩
  | 29 => ⟨S_, .f32⟩
  | 30 => ⟨S_, .f32⟩
  | 31 => ⟨S_, .f32⟩
  | 32 => ⟨S1000, .f32⟩
  | 33 => ⟨S1000, .f32⟩
  | 34 => ⟨S1000x1, .f32⟩
  | 35 => ⟨S1000x4, .f32⟩
  | 36 => ⟨S1000x4, .f32⟩
  | 37 => ⟨S1000x1, .f32⟩
  | 38 => ⟨S1000, .f32⟩
  | 39 => ⟨S1000x1, .f32⟩
  | 40 => ⟨S1000, .f32⟩
  | 41 => ⟨S1000x1, .f32⟩
  | 42 => ⟨S1000, .f32⟩
  | 43 => ⟨S1000x1, .f32⟩
  | 44 => ⟨S1000, .f32⟩
  | 45 => ⟨S1000, .f32⟩
  | 46 => ⟨S_, .f32⟩
  | 47 => ⟨S1000, .f32⟩
  | 48 => ⟨S1000, .f32⟩
  | 49 => ⟨S1000, .f32⟩
  | 50 => ⟨S_, .f32⟩
  | 51 => ⟨S1000, .f32⟩
  | 52 => ⟨S1000, .f32⟩
  | 53 => ⟨S1000, .f32⟩
  | 54 => ⟨S1000x1, .f32⟩
  | 55 => ⟨S1x1000, .f32⟩
  | 56 => ⟨S1000x1000, .f32⟩
  | 57 => ⟨S1000x1000, .f32⟩
  | 58 => ⟨S1000x1000, .f32⟩
  | 59 => ⟨S1000x1, .f32⟩
  | 60 => ⟨S1x1000, .f32⟩
  | 61 => ⟨S1000x1000, .f32⟩
  | 62 => ⟨S1000x1000, .f32⟩
  | 63 => ⟨S1000x1000, .f32⟩
  | 64 => ⟨S1000x1, .f32⟩
  | 65 => ⟨S1x1000, .f32⟩
  | 66 => ⟨S1000x1000, .f32⟩
  | 67 => ⟨S1000x1000, .f32⟩
  | 68 => ⟨S1000x1000, .f32⟩
  | 69 => ⟨S1000x1, .f32⟩
  | 70 => ⟨S1x1000, .f32⟩
  | 71 => ⟨S1000x1000, .f32⟩
  | 72 => ⟨S1000x1000, .f32⟩
  | 73 => ⟨S1000x1000, .f32⟩
  | 74 => ⟨S1000x1000, .f32⟩
  | 75 => ⟨S_, .f32⟩
  | 76 => ⟨S1000x1000, .f32⟩
  | 77 => ⟨S1000x1000, .f32⟩
  | 78 => ⟨S1000x1000, .f32⟩
  | 79 => ⟨S_, .f32⟩
  | 80 => ⟨S1000x1000, .f32⟩
  | 81 => ⟨S1000x1000, .f32⟩
  | 82 => ⟨S1000x1000, .f32⟩
  | 83 => ⟨S1000x1, .f32⟩
  | 84 => ⟨S1x1000, .f32⟩
  | 85 => ⟨S1000x1000, .f32⟩
  | 86 => ⟨S1000x1000, .f32⟩
  | 87 => ⟨S1000x1000, .f32⟩
  | 88 => ⟨S1000x1000, .f32⟩
  | 89 => ⟨S_, .f32⟩
  | 90 => ⟨S1000x1000, .f32⟩
  | 91 => ⟨S1000x1000, .f32⟩
  | 92 => ⟨S1000x1000, .f32⟩
  | 93 => ⟨S1000, .i32⟩
  | 94 => ⟨S_, .i1⟩
  | 95 => ⟨S1000, .i1⟩
  | 96 => ⟨S_, .i32⟩
  | 97 => ⟨S_, .i32⟩
  | 98 => ⟨S1000, .i1⟩
  | 99 => ⟨S1000x1000, .f32⟩
  | 100 => ⟨S1000, .i32⟩
  | 101 => ⟨S_, .i32⟩
  | 102 => ⟨S_, .i32⟩
  | 103 => ⟨S1000, .i1⟩
  | 104 => ⟨S_, .i32⟩
  | 105 => ⟨S_, .i1⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S1, .i1⟩
  | 115 => ⟨S_, .i1⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1, .i1⟩
  | 123 => ⟨S_, .i1⟩
  | 124 => ⟨S_, .i1⟩
  | 125 => ⟨S_, .i32⟩
  | 126 => ⟨S_, .i32⟩
  | 127 => ⟨S_, .i1⟩
  | _ => ⟨S36x64x64, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S1x1000, .f32⟩
  | 12 => ⟨S1000, .f32⟩
  | 13 => ⟨S_, .f32⟩
  | 14 => ⟨S1000, .f32⟩
  | 15 => ⟨S1000, .i1⟩
  | 16 => ⟨S_, .i32⟩
  | 17 => ⟨S1000, .i32⟩
  | 18 => ⟨S1000, .i1⟩
  | 19 => ⟨S1000, .i1⟩
  | 20 => ⟨S1000, .i1⟩
  | 21 => ⟨S1000, .i1⟩
  | 22 => ⟨S1000, .i1⟩
  | 23 => ⟨S1000, .i1⟩
  | 24 => ⟨S_, .i32⟩
  | 25 => ⟨S_, .i32⟩
  | 26 => ⟨S1000, .i1⟩
  | 27 => ⟨S_, .f32⟩
  | 28 => ⟨S_, .f32⟩
  | 29 => ⟨S1000, .f32⟩
  | 30 => ⟨S1000, .f32⟩
  | 31 => ⟨S100, .f32⟩
  | 32 => ⟨S100, .i32⟩
  | 33 => ⟨S_, .i32⟩
  | 34 => ⟨S100, .i32⟩
  | 35 => ⟨S100, .i1⟩
  | 36 => ⟨S_, .i32⟩
  | 37 => ⟨S100, .i32⟩
  | 38 => ⟨S100, .i32⟩
  | 39 => ⟨S100, .i32⟩
  | 40 => ⟨S100x1, .i32⟩
  | 41 => ⟨S100x4, .f32⟩
  | 42 => ⟨S_, .i32⟩
  | 43 => ⟨S100, .i32⟩
  | 44 => ⟨S100, .i1⟩
  | 45 => ⟨S_, .i32⟩
  | 46 => ⟨S100, .i32⟩
  | 47 => ⟨S100, .i32⟩
  | 48 => ⟨S100, .i32⟩
  | 49 => ⟨S100x1, .i32⟩
  | 50 => ⟨S100, .f32⟩
  | 51 => ⟨S100, .f32⟩
  | 52 => ⟨S_, .f32⟩
  | 53 => ⟨S100, .f32⟩
  | 54 => ⟨S100, .i1⟩
  | 55 => ⟨S_, .f32⟩
  | 56 => ⟨S_, .f32⟩
  | 57 => ⟨S100, .f32⟩
  | 58 => ⟨S100, .f32⟩
  | 59 => ⟨S100x1, .i1⟩
  | 60 => ⟨S_, .f32⟩
  | 61 => ⟨S_, .f32⟩
  | 62 => ⟨S100x4, .i1⟩
  | 63 => ⟨S100x4, .f32⟩
  | 64 => ⟨S100x4, .f32⟩
  | 65 => ⟨S_, .f32⟩
  | 66 => ⟨S_, .f32⟩
  | 67 => ⟨S100, .f32⟩
  | 68 => ⟨S100, .f32⟩
  | 69 => ⟨S100x1, .f32⟩
  | 70 => ⟨S100x1, .f32⟩
  | 71 => ⟨S100x6, .f32⟩
  | _ => ⟨S36x64x64, .f32⟩

abbrev hbmTy (i : Nat) : BufTy := match i / 128 with
  | 0 => hbmTy0_0 i
  | 1 => hbmTy0_1 i
  | 2 => hbmTy0_2 i
  | _ => ⟨S36x64x64, .f32⟩

abbrev bufTy : (tb : Table) → Fin (tcTables nBuf tb) → BufTy
  | .hbm, ⟨i, _⟩ => hbmTy i
  | _, _ => ⟨S36x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_6 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_7 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_8 : Ref sig .tc := ⟨.hbm, 93, rfl⟩
abbrev main_call0_v0 : Ref sig .tc := ⟨.hbm, 94, rfl⟩
abbrev main_call0_v1 : Ref sig .tc := ⟨.hbm, 95, rfl⟩
abbrev main_call0_v2 : Ref sig .tc := ⟨.hbm, 96, rfl⟩
abbrev main_call0_v3 : Ref sig .tc := ⟨.hbm, 97, rfl⟩
abbrev main_v78 : Ref sig .tc := ⟨.hbm, 98, rfl⟩
abbrev main_cst_9 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_10 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_call1_v3 : Ref sig .tc := ⟨.hbm, 107, rfl⟩
abbrev main_v82 : Ref sig .tc := ⟨.hbm, 108, rfl⟩
abbrev main_cst_11 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_12 : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_v86 : Ref sig .tc := ⟨.hbm, 118, rfl⟩
abbrev main_cst_13 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_14 : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_values : Ref sig .tc := ⟨.hbm, 135, rfl⟩
abbrev main_indices : Ref sig .tc := ⟨.hbm, 136, rfl⟩
abbrev main_c_15 : Ref sig .tc := ⟨.hbm, 137, rfl⟩
abbrev main_v97 : Ref sig .tc := ⟨.hbm, 138, rfl⟩
abbrev main_v98 : Ref sig .tc := ⟨.hbm, 139, rfl⟩
abbrev main_c_16 : Ref sig .tc := ⟨.hbm, 140, rfl⟩
abbrev main_v99 : Ref sig .tc := ⟨.hbm, 141, rfl⟩
abbrev main_v100 : Ref sig .tc := ⟨.hbm, 142, rfl⟩
abbrev main_c_17 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_18 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_19 : Ref sig .tc := ⟨.hbm, 153, rfl⟩
abbrev main_v109 : Ref sig .tc := ⟨.hbm, 154, rfl⟩
abbrev main_v110 : Ref sig .tc := ⟨.hbm, 155, rfl⟩
abbrev main_cst_20 : Ref sig .tc := ⟨.hbm, 156, rfl⟩
abbrev main_v111 : Ref sig .tc := ⟨.hbm, 157, rfl⟩
abbrev main_cst_21 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_22 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_23 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_cst_24 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_cst_25 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_cst_26 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_c_27 : Ref sig .tc := ⟨.hbm, 222, rfl⟩
abbrev main_v170 : Ref sig .tc := ⟨.hbm, 223, rfl⟩
abbrev main_c_28 : Ref sig .tc := ⟨.hbm, 224, rfl⟩
abbrev main_c_29 : Ref sig .tc := ⟨.hbm, 225, rfl⟩
abbrev main_v171_0 : Ref sig .tc := ⟨.hbm, 226, rfl⟩
abbrev main_v171_1 : Ref sig .tc := ⟨.hbm, 227, rfl⟩
abbrev main_v171_2 : Ref sig .tc := ⟨.hbm, 228, rfl⟩
abbrev main_v171_3 : Ref sig .tc := ⟨.hbm, 229, rfl⟩
abbrev main_v171_4 : Ref sig .tc := ⟨.hbm, 230, rfl⟩
abbrev main_v171_5 : Ref sig .tc := ⟨.hbm, 231, rfl⟩
abbrev main_while0c_c_46 : Ref sig .tc := ⟨.hbm, 232, rfl⟩
abbrev main_while0c_v198 : Ref sig .tc := ⟨.hbm, 233, rfl⟩
abbrev main_while0b_c_46 : Ref sig .tc := ⟨.hbm, 234, rfl⟩
abbrev main_while0b_v198 : Ref sig .tc := ⟨.hbm, 235, rfl⟩
abbrev main_while0b_c_47 : Ref sig .tc := ⟨.hbm, 236, rfl⟩
abbrev main_while0b_v199 : Ref sig .tc := ⟨.hbm, 237, rfl⟩
abbrev main_while0b_v200 : Ref sig .tc := ⟨.hbm, 238, rfl⟩
abbrev main_while0b_c_48 : Ref sig .tc := ⟨.hbm, 239, rfl⟩
abbrev main_while0b_v201 : Ref sig .tc := ⟨.hbm, 240, rfl⟩
abbrev main_while0b_v202 : Ref sig .tc := ⟨.hbm, 241, rfl⟩
abbrev main_while0b_v203 : Ref sig .tc := ⟨.hbm, 242, rfl⟩
abbrev main_while0b_v204 : Ref sig .tc := ⟨.hbm, 243, rfl⟩
abbrev main_while0b_c_49 : Ref sig .tc := ⟨.hbm, 244, rfl⟩
abbrev main_while0b_v205 : Ref sig .tc := ⟨.hbm, 245, rfl⟩
abbrev main_while0b_v206 : Ref sig .tc := ⟨.hbm, 246, rfl⟩
abbrev main_while0b_c_50 : Ref sig .tc := ⟨.hbm, 247, rfl⟩
abbrev main_while0b_v207 : Ref sig .tc := ⟨.hbm, 248, rfl⟩
abbrev main_while0b_v208 : Ref sig .tc := ⟨.hbm, 249, rfl⟩
abbrev main_while0b_v209 : Ref sig .tc := ⟨.hbm, 250, rfl⟩
abbrev main_while0b_v210 : Ref sig .tc := ⟨.hbm, 251, rfl⟩
abbrev main_while0b_v211 : Ref sig .tc := ⟨.hbm, 252, rfl⟩
abbrev main_while0b_v212 : Ref sig .tc := ⟨.hbm, 253, rfl⟩
abbrev main_while0b_c_51 : Ref sig .tc := ⟨.hbm, 254, rfl⟩
abbrev main_while0b_v213 : Ref sig .tc := ⟨.hbm, 255, rfl⟩
abbrev main_while0b_c_52 : Ref sig .tc := ⟨.hbm, 256, rfl⟩
abbrev main_while0b_v214 : Ref sig .tc := ⟨.hbm, 257, rfl⟩
abbrev main_while0b_v215 : Ref sig .tc := ⟨.hbm, 258, rfl⟩
abbrev main_while0b_c_53 : Ref sig .tc := ⟨.hbm, 259, rfl⟩
abbrev main_while0b_c_54 : Ref sig .tc := ⟨.hbm, 260, rfl⟩
abbrev main_while0b_v216 : Ref sig .tc := ⟨.hbm, 261, rfl⟩
abbrev main_while0b_c_55 : Ref sig .tc := ⟨.hbm, 262, rfl⟩
abbrev main_while0b_c_56 : Ref sig .tc := ⟨.hbm, 263, rfl⟩
abbrev main_while0b_v217 : Ref sig .tc := ⟨.hbm, 264, rfl⟩
abbrev main_while0b_c_57 : Ref sig .tc := ⟨.hbm, 265, rfl⟩
abbrev main_while0b_v218 : Ref sig .tc := ⟨.hbm, 266, rfl⟩
abbrev main_while0b_v219 : Ref sig .tc := ⟨.hbm, 267, rfl⟩
abbrev main_while0b_v220 : Ref sig .tc := ⟨.hbm, 268, rfl⟩
abbrev main_while0b_cst_58 : Ref sig .tc := ⟨.hbm, 269, rfl⟩
abbrev main_while0b_v221 : Ref sig .tc := ⟨.hbm, 270, rfl⟩
abbrev main_while0b_v222 : Ref sig .tc := ⟨.hbm, 271, rfl⟩
abbrev main_while0b_v223 : Ref sig .tc := ⟨.hbm, 272, rfl⟩
abbrev main_while0b_v224 : Ref sig .tc := ⟨.hbm, 273, rfl⟩
abbrev main_while0b_v225 : Ref sig .tc := ⟨.hbm, 274, rfl⟩
abbrev main_while0b_v226 : Ref sig .tc := ⟨.hbm, 275, rfl⟩
abbrev main_while0b_v227 : Ref sig .tc := ⟨.hbm, 276, rfl⟩
abbrev main_while0b_v228 : Ref sig .tc := ⟨.hbm, 277, rfl⟩
abbrev main_while0b_v229 : Ref sig .tc := ⟨.hbm, 278, rfl⟩
abbrev main_while0b_v230 : Ref sig .tc := ⟨.hbm, 279, rfl⟩
abbrev main_while0b_c_59 : Ref sig .tc := ⟨.hbm, 280, rfl⟩
abbrev main_while0b_v231 : Ref sig .tc := ⟨.hbm, 281, rfl⟩
abbrev main_v172 : Ref sig .tc := ⟨.hbm, 282, rfl⟩
abbrev main_cst_30 : Ref sig .tc := ⟨.hbm, 283, rfl⟩
abbrev main_call4_v0 : Ref sig .tc := ⟨.hbm, 284, rfl⟩
abbrev main_call4_v1 : Ref sig .tc := ⟨.hbm, 285, rfl⟩
abbrev main_v173 : Ref sig .tc := ⟨.hbm, 286, rfl⟩
abbrev main_values_31 : Ref sig .tc := ⟨.hbm, 287, rfl⟩
abbrev main_indices_32 : Ref sig .tc := ⟨.hbm, 288, rfl⟩
abbrev main_c_33 : Ref sig .tc := ⟨.hbm, 289, rfl⟩
abbrev main_v174 : Ref sig .tc := ⟨.hbm, 290, rfl⟩
abbrev main_v175 : Ref sig .tc := ⟨.hbm, 291, rfl⟩
abbrev main_c_34 : Ref sig .tc := ⟨.hbm, 292, rfl⟩
abbrev main_v176 : Ref sig .tc := ⟨.hbm, 293, rfl⟩
abbrev main_v177 : Ref sig .tc := ⟨.hbm, 294, rfl⟩
abbrev main_v178 : Ref sig .tc := ⟨.hbm, 295, rfl⟩
abbrev main_v179 : Ref sig .tc := ⟨.hbm, 296, rfl⟩
abbrev main_v180 : Ref sig .tc := ⟨.hbm, 297, rfl⟩
abbrev main_c_35 : Ref sig .tc := ⟨.hbm, 298, rfl⟩
abbrev main_v181 : Ref sig .tc := ⟨.hbm, 299, rfl⟩
abbrev main_v182 : Ref sig .tc := ⟨.hbm, 300, rfl⟩
abbrev main_c_36 : Ref sig .tc := ⟨.hbm, 301, rfl⟩
abbrev main_v183 : Ref sig .tc := ⟨.hbm, 302, rfl⟩
abbrev main_v184 : Ref sig .tc := ⟨.hbm, 303, rfl⟩
abbrev main_v185 : Ref sig .tc := ⟨.hbm, 304, rfl⟩
abbrev main_v186 : Ref sig .tc := ⟨.hbm, 305, rfl⟩
abbrev main_v187 : Ref sig .tc := ⟨.hbm, 306, rfl⟩
abbrev main_v188 : Ref sig .tc := ⟨.hbm, 307, rfl⟩
abbrev main_cst_37 : Ref sig .tc := ⟨.hbm, 308, rfl⟩
abbrev main_v189 : Ref sig .tc := ⟨.hbm, 309, rfl⟩
abbrev main_v190 : Ref sig .tc := ⟨.hbm, 310, rfl⟩
abbrev main_cst_38 : Ref sig .tc := ⟨.hbm, 311, rfl⟩
abbrev main_call5_v0 : Ref sig .tc := ⟨.hbm, 312, rfl⟩
abbrev main_call5_v1 : Ref sig .tc := ⟨.hbm, 313, rfl⟩
abbrev main_v191 : Ref sig .tc := ⟨.hbm, 314, rfl⟩
abbrev main_v192 : Ref sig .tc := ⟨.hbm, 315, rfl⟩
abbrev main_cst_39 : Ref sig .tc := ⟨.hbm, 316, rfl⟩
abbrev main_call6_v0 : Ref sig .tc := ⟨.hbm, 317, rfl⟩
abbrev main_call6_v1 : Ref sig .tc := ⟨.hbm, 318, rfl⟩
abbrev main_call6_v2 : Ref sig .tc := ⟨.hbm, 319, rfl⟩
abbrev main_v193 : Ref sig .tc := ⟨.hbm, 320, rfl⟩
abbrev main_cst_40 : Ref sig .tc := ⟨.hbm, 321, rfl⟩
abbrev main_call7_v0 : Ref sig .tc := ⟨.hbm, 322, rfl⟩
abbrev main_call7_v1 : Ref sig .tc := ⟨.hbm, 323, rfl⟩
abbrev main_v194 : Ref sig .tc := ⟨.hbm, 324, rfl⟩
abbrev main_v195 : Ref sig .tc := ⟨.hbm, 325, rfl⟩
abbrev main_v196 : Ref sig .tc := ⟨.hbm, 326, rfl⟩
abbrev main_v197 : Ref sig .tc := ⟨.hbm, 327, rfl⟩

abbrev nD : Nat := 1
abbrev τ : Topo := Topo.v7x

variable {F : FTy → Type} [FloatOps F]

abbrev main_while0_count : Scf.Loop 32 := ⟨0#32, 1000#32, 1#32⟩
-- ==== Proof.LaunchKernelIdeal.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Claim

@[expose] public section

set_option maxRecDepth 16384

noncomputable section

/-! The launch of the kernel: its body run, and the frame. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev VO0_11 : View sig .tc .vmem S8x128 .f32 := (Memref.whole cc0_stg11_0 : Memref sig .tc .vmem S8x128 .f32).view
abbrev ms0_0 (t : Fin cfg0.N) : Memref sig .tc .vmem S1024x1 .i32 := win0_0.stage (cfg0.slots t 0)
abbrev hs0_0 (t : Fin cfg0.N) : (ms0_0 t).IsWhole := hstage0_0 0
abbrev ms0_1 (t : Fin cfg0.N) : Memref sig .tc .vmem S1024x1 .f32 := win0_1.stage (cfg0.slots t 1)
abbrev hs0_1 (t : Fin cfg0.N) : (ms0_1 t).IsWhole := hstage0_1 0
abbrev ms0_2 (t : Fin cfg0.N) : Memref sig .tc .vmem S4096x9 .f32 := win0_2.stage (cfg0.slots t 2)
abbrev hs0_2 (t : Fin cfg0.N) : (ms0_2 t).IsWhole := hstage0_2 0
abbrev ms0_3 (t : Fin cfg0.N) : Memref sig .tc .vmem S4096x9 .f32 := win0_3.stage (cfg0.slots t 3)
abbrev hs0_3 (t : Fin cfg0.N) : (ms0_3 t).IsWhole := hstage0_3 0
abbrev ms0_4 (t : Fin cfg0.N) : Memref sig .tc .vmem S4096x9 .f32 := win0_4.stage (cfg0.slots t 4)
abbrev hs0_4 (t : Fin cfg0.N) : (ms0_4 t).IsWhole := hstage0_4 0
abbrev ms0_5 (t : Fin cfg0.N) : Memref sig .tc .vmem S4096x9 .f32 := win0_5.stage (cfg0.slots t 5)
abbrev hs0_5 (t : Fin cfg0.N) : (ms0_5 t).IsWhole := hstage0_5 0
abbrev ms0_6 (t : Fin cfg0.N) : Memref sig .tc .vmem S4096x9 .f32 := win0_6.stage (cfg0.slots t 6)
abbrev hs0_6 (t : Fin cfg0.N) : (ms0_6 t).IsWhole := hstage0_6 0
abbrev ms0_7 (t : Fin cfg0.N) : Memref sig .tc .vmem S4096x9 .f32 := win0_7.stage (cfg0.slots t 7)
abbrev hs0_7 (t : Fin cfg0.N) : (ms0_7 t).IsWhole := hstage0_7 0
abbrev ms0_8 (t : Fin cfg0.N) : Memref sig .tc .vmem S4096x9 .f32 := win0_8.stage (cfg0.slots t 8)
abbrev hs0_8 (t : Fin cfg0.N) : (ms0_8 t).IsWhole := hstage0_8 0
abbrev ms0_9 (t : Fin cfg0.N) : Memref sig .tc .vmem S4096x9 .f32 := win0_9.stage (cfg0.slots t 9)
abbrev hs0_9 (t : Fin cfg0.N) : (ms0_9 t).IsWhole := hstage0_9 0
abbrev ms0_10 (t : Fin cfg0.N) : Memref sig .tc .vmem S1x2 .f32 := win0_10.stage (cfg0.slots t 10)
abbrev hs0_10 (t : Fin cfg0.N) : (ms0_10 t).IsWhole := hstage0_10 0
abbrev ms0_11 (t : Fin cfg0.N) : Memref sig .tc .vmem S8x128 .f32 := win0_11.stage (cfg0.slots t 11)
abbrev hs0_11 (t : Fin cfg0.N) : (ms0_11 t).IsWhole := hstage0_11 0
abbrev scM0_0 : Memref sig .tc .vmem S1024x1024 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- One trip of the selection loop, as a function of the scores left and the block filled so far. -/
def selStep (v345 : IVec S1x1024 32) (v359 : FVec F S1x1024 .f32) (v360 : FVec F S1x1024 .f32) (v361 : FVec F S1x1024 .f32) (v362 : FVec F S1x1024 .f32) (v363 : FVec F S1x1024 .f32) (v364 : FVec F S3x1024 .f32) (v367 : IVec S1x128 32)
    (k : Fin k0_t2_loop.trips) (acc : FVec F S1x1024 .f32 × FVec F S8x128 .f32) : FVec F S1x1024 .f32 × FVec F S8x128 .f32 :=
  (k0_pay4 v345 acc.1 (k0_pay6 (k0_pay2 v345) acc.1),
    k0_pay7 (k0_pay1 v359 v360 v361 v362 v363 v364) (k0_pay2 v345) v367 0#32 1#32 k acc.1 acc.2)

/-- The selection loop touches no memory: it returns the fold of its trip. -/
theorem selLoop_eq (arg0 : Memref sig .tc .vmem S1024x1 .i32) (harg0 : arg0.IsWhole) (arg1 : Memref sig .tc .vmem S1024x1 .f32) (harg1 : arg1.IsWhole) (arg2 : Memref sig .tc .vmem S4096x9 .f32) (harg2 : arg2.IsWhole) (arg3 : Memref sig .tc .vmem S4096x9 .f32) (harg3 : arg3.IsWhole) (arg4 : Memref sig .tc .vmem S4096x9 .f32) (harg4 : arg4.IsWhole) (arg5 : Memref sig .tc .vmem S4096x9 .f32) (harg5 : arg5.IsWhole) (arg6 : Memref sig .tc .vmem S4096x9 .f32) (harg6 : arg6.IsWhole) (arg7 : Memref sig .tc .vmem S4096x9 .f32) (harg7 : arg7.IsWhole) (arg8 : Memref sig .tc .vmem S4096x9 .f32) (harg8 : arg8.IsWhole) (arg9 : Memref sig .tc .vmem S4096x9 .f32) (harg9 : arg9.IsWhole) (arg10 : Memref sig .tc .vmem S1x2 .f32) (harg10 : arg10.IsWhole) (arg11 : Memref sig .tc .vmem S8x128 .f32) (harg11 : arg11.IsWhole) (arg12 : Memref sig .tc .vmem S1024x1024 .f32) (harg12 : arg12.IsWhole)
    (v345 : IVec S1x1024 32) (v359 : FVec F S1x1024 .f32) (v360 : FVec F S1x1024 .f32) (v361 : FVec F S1x1024 .f32) (v362 : FVec F S1x1024 .f32) (v363 : FVec F S1x1024 .f32) (v364 : FVec F S3x1024 .f32) (v367 : IVec S1x128 32) (init : FVec F S1x1024 .f32 × FVec F S8x128 .f32) :
    Scf.Loop.for k0_t2_loop k0_t2_ok init (k0_t2_body arg0 harg0 arg1 harg1 arg2 harg2 arg3 harg3 arg4 harg4 arg5 harg5 arg6 harg6 arg7 harg7 arg8 harg8 arg9 harg9 arg10 harg10 arg11 harg11 arg12 harg12 v345 v359 v360 v361 v362 v363 v364 v367)
      = .ret (Scf.fold (selStep v345 v359 v360 v361 v362 v363 v364 v367) init) :=
  Scf.for_pure _ _ _ _ _ _ _ fun _ _ => rfl

set_option maxHeartbeats 4000000 in
/-- The whole body run on whole staging buffers: what its one store leaves in the output block, as the list of
    pieces stored, together with the proof that the body runs to it. The suppression loop goes through by its
    invariant, the selection loop, which touches no memory, as a fold. -/
def kernelRun0_A (c : Dev nD) (arg0 : Memref sig .tc .vmem S1024x1 .i32) (harg0 : arg0.IsWhole) (arg1 : Memref sig .tc .vmem S1024x1 .f32) (harg1 : arg1.IsWhole) (arg2 : Memref sig .tc .vmem S4096x9 .f32) (harg2 : arg2.IsWhole) (arg3 : Memref sig .tc .vmem S4096x9 .f32) (harg3 : arg3.IsWhole) (arg4 : Memref sig .tc .vmem S4096x9 .f32) (harg4 : arg4.IsWhole) (arg5 : Memref sig .tc .vmem S4096x9 .f32) (harg5 : arg5.IsWhole) (arg6 : Memref sig .tc .vmem S4096x9 .f32) (harg6 : arg6.IsWhole) (arg7 : Memref sig .tc .vmem S4096x9 .f32) (harg7 : arg7.IsWhole) (arg8 : Memref sig .tc .vmem S4096x9 .f32) (harg8 : arg8.IsWhole) (arg9 : Memref sig .tc .vmem S4096x9 .f32) (harg9 : arg9.IsWhole) (arg10 : Memref sig .tc .vmem S1x2 .f32) (harg10 : arg10.IsWhole) (arg11 : Memref sig .tc .vmem S8x128 .f32) (harg11 : arg11.IsWhole) (arg12 : Memref sig .tc .vmem S1024x1024 .f32) (harg12 : arg12.IsWhole)
    (x0 : Vec F S1024x1 .i32) (x1 : Vec F S1024x1 .f32) (x2 : Vec F S4096x9 .f32) (x3 : Vec F S4096x9 .f32) (x4 : Vec F S4096x9 .f32) (x5 : Vec F S4096x9 .f32) (x6 : Vec F S4096x9 .f32) (x7 : Vec F S4096x9 .f32) (x8 : Vec F S4096x9 .f32) (x9 : Vec F S4096x9 .f32) (x10 : Vec F S1x2 .f32) :
    { L11 : List (View.Piece (Elt F) S8x128 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ f, arg11.view.loc (c : Thread nD τ) ↦[arg11.view.set]{fullShare} arg11.view.writes (Elt F) f L11) ∗ (∃ d, owns (c : Thread nD τ) arg12 fullShare d)) -∗ K ⟨⟩))
          ⊢ wp frame (wpE (defs₀ (F := F)) Variants.none c none) E (cc0__body arg0 harg0 arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, selLoop_eq]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%ds0, %fs0, -, HS0⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    iexists _, _; isplitr; swap; · iexact HS0
    ipureintro; rfl

/-- The store covers the output block. -/
theorem cover0_A_11 (c : Dev nD) (arg0 : Memref sig .tc .vmem S1024x1 .i32) (harg0 : arg0.IsWhole) (arg1 : Memref sig .tc .vmem S1024x1 .f32) (harg1 : arg1.IsWhole) (arg2 : Memref sig .tc .vmem S4096x9 .f32) (harg2 : arg2.IsWhole) (arg3 : Memref sig .tc .vmem S4096x9 .f32) (harg3 : arg3.IsWhole) (arg4 : Memref sig .tc .vmem S4096x9 .f32) (harg4 : arg4.IsWhole) (arg5 : Memref sig .tc .vmem S4096x9 .f32) (harg5 : arg5.IsWhole) (arg6 : Memref sig .tc .vmem S4096x9 .f32) (harg6 : arg6.IsWhole) (arg7 : Memref sig .tc .vmem S4096x9 .f32) (harg7 : arg7.IsWhole) (arg8 : Memref sig .tc .vmem S4096x9 .f32) (harg8 : arg8.IsWhole) (arg9 : Memref sig .tc .vmem S4096x9 .f32) (harg9 : arg9.IsWhole) (arg10 : Memref sig .tc .vmem S1x2 .f32) (harg10 : arg10.IsWhole) (arg11 : Memref sig .tc .vmem S8x128 .f32) (harg11 : arg11.IsWhole) (arg12 : Memref sig .tc .vmem S1024x1024 .f32) (harg12 : arg12.IsWhole)
    (x0 : Vec F S1024x1 .i32) (x1 : Vec F S1024x1 .f32) (x2 : Vec F S4096x9 .f32) (x3 : Vec F S4096x9 .f32) (x4 : Vec F S4096x9 .f32) (x5 : Vec F S4096x9 .f32) (x6 : Vec F S4096x9 .f32) (x7 : Vec F S4096x9 .f32) (x8 : Vec F S4096x9 .f32) (x9 : Vec F S4096x9 .f32) (x10 : Vec F S1x2 .f32) (y : S8x128.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1 S8x128.size (by sl_kernel_rfl) y

/-- What the run leaves in the output block. -/
def out0_A_11 (c : Dev nD) (arg0 : Memref sig .tc .vmem S1024x1 .i32) (harg0 : arg0.IsWhole) (arg1 : Memref sig .tc .vmem S1024x1 .f32) (harg1 : arg1.IsWhole) (arg2 : Memref sig .tc .vmem S4096x9 .f32) (harg2 : arg2.IsWhole) (arg3 : Memref sig .tc .vmem S4096x9 .f32) (harg3 : arg3.IsWhole) (arg4 : Memref sig .tc .vmem S4096x9 .f32) (harg4 : arg4.IsWhole) (arg5 : Memref sig .tc .vmem S4096x9 .f32) (harg5 : arg5.IsWhole) (arg6 : Memref sig .tc .vmem S4096x9 .f32) (harg6 : arg6.IsWhole) (arg7 : Memref sig .tc .vmem S4096x9 .f32) (harg7 : arg7.IsWhole) (arg8 : Memref sig .tc .vmem S4096x9 .f32) (harg8 : arg8.IsWhole) (arg9 : Memref sig .tc .vmem S4096x9 .f32) (harg9 : arg9.IsWhole) (arg10 : Memref sig .tc .vmem S1x2 .f32) (harg10 : arg10.IsWhole) (arg11 : Memref sig .tc .vmem S8x128 .f32) (harg11 : arg11.IsWhole) (arg12 : Memref sig .tc .vmem S1024x1024 .f32) (harg12 : arg12.IsWhole)
    (x0 : Vec F S1024x1 .i32) (x1 : Vec F S1024x1 .f32) (x2 : Vec F S4096x9 .f32) (x3 : Vec F S4096x9 .f32) (x4 : Vec F S4096x9 .f32) (x5 : Vec F S4096x9 .f32) (x6 : Vec F S4096x9 .f32) (x7 : Vec F S4096x9 .f32) (x8 : Vec F S4096x9 .f32) (x9 : Vec F S4096x9 .f32) (x10 : Vec F S1x2 .f32) : Vec F S8x128 .f32 :=
  VO0_11.read (Elt F) (VO0_11.writes (Elt F) VO0_11.junk (kernelRun0_A c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10).1)

/-- What the output block holds after the one grid point. -/
def outsAt0 (c : Dev nD) (t : Fin cfg0.N) : Vec F S8x128 .f32 :=
  out0_A_11 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- The proof data of the launch: arrays as the region finds them, inputs left in place, the output as computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => (outsAt0 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 1200000 in
/-- The body at a grid point: from the staged blocks to the staged blocks with the output computed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.castSucc = Pipeline.ΦA spec0 c from rfl, PhiA0_eq]
  unfold outsAt0
  unfold out0_A_11
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((kernelRun0_A c _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [HS0]; · iexact HS0
  iintro ⟨H0, H1, H2, H3, H4, H5, H6, H7, H8, H9, H10, ⟨%e11, H11⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  unfold owns; iexists _; isplitr
  swap; · iexact H11
  ipureintro; exact View.read_writes_of_cover _ _ _ _ _ (cover0_A_11 c _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution ends in the library's final state with all semaphores at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- Every execution ends with the arguments unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Hand

end
-- ==== Proof.KernelOut.lean ====
module

public import proofs.«01_k».proof.Proof.LaunchKernelIdeal
public import Idealize.ShloMosaic.Lib.Pipeline.ValueKit

@[expose] public section

set_option maxRecDepth 16384

noncomputable section

/-! What the kernel's one grid point leaves in the output block, as a function of the input blocks:
the stages of the body by name, the suppression loop and the selection loop as recursions. -/

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- One trip of the suppression loop: two rows of the suppression matrix are applied. -/
def nmsStep (M : FVec F S1024x1024 .f32) (k : Fin k0_t1_loop.trips) (acc : FVec F S1x1024 .f32) : FVec F S1x1024 .f32 :=
  k0_pay49 k acc (View.ld (Val := Elt F) (e' := EltTy.f32) M (Rect.unit (s := S1024x1024) (k0_off1 k) S1x1024.size (k0_off1_inb k)))
    (View.ld (Val := Elt F) (e' := EltTy.f32) M (Rect.unit (s := S1024x1024) (k0_off2 k) S1x1024.size (k0_off2_inb k)))

theorem trip_eq (c : Dev nD) (arg0 : Memref sig .tc .vmem S1024x1 .i32) (harg0 : arg0.IsWhole) (arg1 : Memref sig .tc .vmem S1024x1 .f32) (harg1 : arg1.IsWhole) (arg2 : Memref sig .tc .vmem S4096x9 .f32) (harg2 : arg2.IsWhole) (arg3 : Memref sig .tc .vmem S4096x9 .f32) (harg3 : arg3.IsWhole) (arg4 : Memref sig .tc .vmem S4096x9 .f32) (harg4 : arg4.IsWhole) (arg5 : Memref sig .tc .vmem S4096x9 .f32) (harg5 : arg5.IsWhole) (arg6 : Memref sig .tc .vmem S4096x9 .f32) (harg6 : arg6.IsWhole) (arg7 : Memref sig .tc .vmem S4096x9 .f32) (harg7 : arg7.IsWhole) (arg8 : Memref sig .tc .vmem S4096x9 .f32) (harg8 : arg8.IsWhole) (arg9 : Memref sig .tc .vmem S4096x9 .f32) (harg9 : arg9.IsWhole) (arg10 : Memref sig .tc .vmem S1x2 .f32) (harg10 : arg10.IsWhole) (arg11 : Memref sig .tc .vmem S8x128 .f32) (harg11 : arg11.IsWhole) (arg12 : Memref sig .tc .vmem S1024x1024 .f32) (harg12 : arg12.IsWhole) (v153 v209 v219 v229 v239 v248 : FVec F S1024x1 .f32) (v254 : IVec S1024x1 1) (v319 v323 : FVec F S1024x1024 .f32) (M : FVec F S1024x1024 .f32) (k : Fin k0_t1_loop.trips) (acc : FVec F S1x1024 .f32) :
    tripR_k0_t1 Variants.none c none arg0 harg0 arg1 harg1 arg2 harg2 arg3 harg3 arg4 harg4 arg5 harg5 arg6 harg6 arg7 harg7 arg8 harg8 arg9 harg9 arg10 harg10 arg11 harg11 arg12 harg12 v153 v209 v219 v229 v239 v248 v254 v319 v323 (arg12.view.writes (Elt F) arg12.view.junk [⟨Rect.unit ![0, 0] ![1024, 1024] inb_S1024x1024_S1024x1024_0_0, M⟩]) k acc = nmsStep M k acc := by
  unfold tripR_k0_t1 trip_k0_t1
  frame_out
  rfl

/-- The kept mask before trip `k`. -/
def nmsState (M : FVec F S1024x1024 .f32) : ℕ → FVec F S1x1024 .f32
  | 0 => k0_pay48
  | k + 1 => if h : k < k0_t1_loop.trips then nmsStep M ⟨k, h⟩ (nmsState M k) else nmsState M k

theorem nmsState_eq (c : Dev nD) (arg0 : Memref sig .tc .vmem S1024x1 .i32) (harg0 : arg0.IsWhole) (arg1 : Memref sig .tc .vmem S1024x1 .f32) (harg1 : arg1.IsWhole) (arg2 : Memref sig .tc .vmem S4096x9 .f32) (harg2 : arg2.IsWhole) (arg3 : Memref sig .tc .vmem S4096x9 .f32) (harg3 : arg3.IsWhole) (arg4 : Memref sig .tc .vmem S4096x9 .f32) (harg4 : arg4.IsWhole) (arg5 : Memref sig .tc .vmem S4096x9 .f32) (harg5 : arg5.IsWhole) (arg6 : Memref sig .tc .vmem S4096x9 .f32) (harg6 : arg6.IsWhole) (arg7 : Memref sig .tc .vmem S4096x9 .f32) (harg7 : arg7.IsWhole) (arg8 : Memref sig .tc .vmem S4096x9 .f32) (harg8 : arg8.IsWhole) (arg9 : Memref sig .tc .vmem S4096x9 .f32) (harg9 : arg9.IsWhole) (arg10 : Memref sig .tc .vmem S1x2 .f32) (harg10 : arg10.IsWhole) (arg11 : Memref sig .tc .vmem S8x128 .f32) (harg11 : arg11.IsWhole) (arg12 : Memref sig .tc .vmem S1024x1024 .f32) (harg12 : arg12.IsWhole) (v153 v209 v219 v229 v239 v248 : FVec F S1024x1 .f32) (v254 : IVec S1024x1 1) (v319 v323 : FVec F S1024x1024 .f32) (M : FVec F S1024x1024 .f32) (k : ℕ) (hk : k ≤ k0_t1_loop.trips) :
    st_k0_t1 Variants.none c none arg0 harg0 arg1 harg1 arg2 harg2 arg3 harg3 arg4 harg4 arg5 harg5 arg6 harg6 arg7 harg7 arg8 harg8 arg9 harg9 arg10 harg10 arg11 harg11 arg12 harg12 v153 v209 v219 v229 v239 v248 v254 v319 v323 (arg12.view.writes (Elt F) arg12.view.junk [⟨Rect.unit ![0, 0] ![1024, 1024] inb_S1024x1024_S1024x1024_0_0, M⟩]) k0_pay48 k = nmsState M k := by
  induction k with
  | zero => exact st_k0_t1_zero ..
  | succ k ih =>
    have hk' : k < k0_t1_loop.trips := hk
    refine (st_k0_t1_succ _ _ _ _ _ _ _ _ _ _ _ _ _ _ _ _ _ _ _ _ _ _ _ _ _ _ _ _ _ _ _ _ _ _ _ _ _ _ _ _ ⟨k, hk'⟩).trans ?_
    rw [ih (Nat.le_of_lt hk'), trip_eq]
    simp only [nmsState, dif_pos hk']

theorem trips_eq : Scf.trips (0#32) (Scalar.addi 0#32 500#32) 1#32 = k0_t1_loop.trips := rfl

theorem nmsState_last (c : Dev nD) (arg0 : Memref sig .tc .vmem S1024x1 .i32) (harg0 : arg0.IsWhole) (arg1 : Memref sig .tc .vmem S1024x1 .f32) (harg1 : arg1.IsWhole) (arg2 : Memref sig .tc .vmem S4096x9 .f32) (harg2 : arg2.IsWhole) (arg3 : Memref sig .tc .vmem S4096x9 .f32) (harg3 : arg3.IsWhole) (arg4 : Memref sig .tc .vmem S4096x9 .f32) (harg4 : arg4.IsWhole) (arg5 : Memref sig .tc .vmem S4096x9 .f32) (harg5 : arg5.IsWhole) (arg6 : Memref sig .tc .vmem S4096x9 .f32) (harg6 : arg6.IsWhole) (arg7 : Memref sig .tc .vmem S4096x9 .f32) (harg7 : arg7.IsWhole) (arg8 : Memref sig .tc .vmem S4096x9 .f32) (harg8 : arg8.IsWhole) (arg9 : Memref sig .tc .vmem S4096x9 .f32) (harg9 : arg9.IsWhole) (arg10 : Memref sig .tc .vmem S1x2 .f32) (harg10 : arg10.IsWhole) (arg11 : Memref sig .tc .vmem S8x128 .f32) (harg11 : arg11.IsWhole) (arg12 : Memref sig .tc .vmem S1024x1024 .f32) (harg12 : arg12.IsWhole) (v153 v209 v219 v229 v239 v248 : FVec F S1024x1 .f32) (v254 : IVec S1024x1 1) (v319 v323 : FVec F S1024x1024 .f32) (M : FVec F S1024x1024 .f32) :
    st_k0_t1 Variants.none c none arg0 harg0 arg1 harg1 arg2 harg2 arg3 harg3 arg4 harg4 arg5 harg5 arg6 harg6 arg7 harg7 arg8 harg8 arg9 harg9 arg10 harg10 arg11 harg11 arg12 harg12 v153 v209 v219 v229 v239 v248 v254 v319 v323 (arg12.view.writes (Elt F) arg12.view.junk [⟨Rect.unit ![0, 0] ![1024, 1024] inb_S1024x1024_S1024x1024_0_0, M⟩]) k0_pay48 (Scf.trips (0#32) (Scalar.addi 0#32 500#32) 1#32) = nmsState M k0_t1_loop.trips :=
  nmsState_eq (hk := le_of_eq trips_eq) ..

/-- The decoded boxes, four groups of nine columns. -/
def kDec (x2 x3 x4 x5 x6 x7 x8 x9 : Vec F S4096x9 .f32) (x10 : Vec F S1x2 .f32) : FVec F S4096x36 .f32 :=
  k0_pay17 (k0_pay12 x2 x4 x6) (k0_pay13 x3 x5 x7) (k0_pay14 x2 x4 x8) (k0_pay15 x3 x5 x9) (k0_pay16 x10)
/-- The row of each candidate. -/
def kRow (x0 : Vec F S1024x1 .i32) : IVec S1024x1 32 := k0_pay21 (k0_pay18 x0) (720#32) (k0_pay19 x0) (k0_pay20 x0) 1#32
/-- The anchor of each candidate. -/
def kAnc (x0 : Vec F S1024x1 .i32) : IVec S1024x1 32 :=
  k0_pay26 (k0_pay22 (k0_pay18 x0)) (k0_pay23 (k0_pay18 x0)) (k0_pay24 (k0_pay18 x0)) k0_pay25
/-- The class of each candidate. -/
def kLab (x0 : Vec F S1024x1 .i32) : FVec F S1024x1 .f32 := k0_pay27 (k0_pay22 (k0_pay18 x0))
/-- The left edge of each candidate's box. -/
def kB0 (D : FVec F S4096x36 .f32) (R A : IVec S1024x1 32) : FVec F S1024x1 .f32 := k0_pay30 D R A (k0_pay28 D R)
/-- The top edge. -/
def kB1 (D : FVec F S4096x36 .f32) (R A : IVec S1024x1 32) : FVec F S1024x1 .f32 := k0_pay31 D R A (k0_pay28 D R)
/-- The right edge. -/
def kB2 (D : FVec F S4096x36 .f32) (R A : IVec S1024x1 32) : FVec F S1024x1 .f32 := k0_pay33 (k0_pay32 D R A (k0_pay28 D R))
/-- The bottom edge. -/
def kB3 (D : FVec F S4096x36 .f32) (R A : IVec S1024x1 32) : FVec F S1024x1 .f32 :=
  k0_pay34 A (k0_pay29 D R (k0_pay28 D R)) (iota Kind.tc S1x36 32 [1] iota_S1x36_d1_w32)
/-- The suppression matrix. -/
def kMask (L B0 B1 B2 B3 : FVec F S1024x1 .f32) (V : IVec S1024x1 1) : FVec F S1024x1024 .f32 :=
  k0_pay47 V (k0_pay45 L B0 B1 B2 B3 k0_pay36 (k0_pay38 B0 B1) (shapeCast S1x1024x1 (select k0_pay36 B2 (broadcast S1024x1 (Scalar.ofBits .f32 0x00000000#32))) shapeCasts_S1024x1_S1x1024x1))
    (k0_pay46 L B0 B1 B2 B3 k0_pay36 (k0_pay38 B0 B1) (shapeCast S1x1024x1 (select k0_pay36 B2 (broadcast S1024x1 (Scalar.ofBits .f32 0x00000000#32))) shapeCasts_S1024x1_S1x1024x1))
/-- The scores after suppression. -/
def kFinal (T : FVec F S1024x1 .f32) (V : IVec S1024x1 1) (M : FVec F S1024x1024 .f32) : FVec F S1x1024 .f32 :=
  k0_pay50 T V (nmsState M k0_t1_loop.trips)
/-- The selection loop over the scores `fs`. -/
def kSelect (L B0 B1 B2 B3 : FVec F S1024x1 .f32) (fs : FVec F S1x1024 .f32) : FVec F S8x128 .f32 :=
  (Scf.fold (selStep (iota Kind.tc S1x1024 32 [1] iota_S1x1024_d1_w32) (k0_pay51 B0) (k0_pay52 B1) (k0_pay53 B2)
          (k0_pay54 B3) (k0_pay55 L) k0_pay56 (iota Kind.tc S1x128 32 [1] iota_S1x128_d1_w32)) (fs, k0_pay3)).2
/-- The whole body. -/
def kOut (x0 : Vec F S1024x1 .i32) (x1 : Vec F S1024x1 .f32) (x2 x3 x4 x5 x6 x7 x8 x9 : Vec F S4096x9 .f32) (x10 : Vec F S1x2 .f32) : FVec F S8x128 .f32 :=
  let D := kDec x2 x3 x4 x5 x6 x7 x8 x9 x10
  let R := kRow (F := F) x0
  let A := kAnc (F := F) x0
  let L := kLab (F := F) x0
  kSelect L (kB0 D R A) (kB1 D R A) (kB2 D R A) (kB3 D R A)
    (kFinal (k0_pay35 x1) (k0_pay37 x1) (kMask L (kB0 D R A) (kB1 D R A) (kB2 D R A) (kB3 D R A) (k0_pay37 x1)))

theorem out0_eq (c : Dev nD) (arg0 : Memref sig .tc .vmem S1024x1 .i32) (harg0 : arg0.IsWhole) (arg1 : Memref sig .tc .vmem S1024x1 .f32) (harg1 : arg1.IsWhole) (arg2 : Memref sig .tc .vmem S4096x9 .f32) (harg2 : arg2.IsWhole) (arg3 : Memref sig .tc .vmem S4096x9 .f32) (harg3 : arg3.IsWhole) (arg4 : Memref sig .tc .vmem S4096x9 .f32) (harg4 : arg4.IsWhole) (arg5 : Memref sig .tc .vmem S4096x9 .f32) (harg5 : arg5.IsWhole) (arg6 : Memref sig .tc .vmem S4096x9 .f32) (harg6 : arg6.IsWhole) (arg7 : Memref sig .tc .vmem S4096x9 .f32) (harg7 : arg7.IsWhole) (arg8 : Memref sig .tc .vmem S4096x9 .f32) (harg8 : arg8.IsWhole) (arg9 : Memref sig .tc .vmem S4096x9 .f32) (harg9 : arg9.IsWhole) (arg10 : Memref sig .tc .vmem S1x2 .f32) (harg10 : arg10.IsWhole) (arg11 : Memref sig .tc .vmem S8x128 .f32) (harg11 : arg11.IsWhole) (arg12 : Memref sig .tc .vmem S1024x1024 .f32) (harg12 : arg12.IsWhole)
    (x0 : Vec F S1024x1 .i32) (x1 : Vec F S1024x1 .f32) (x2 : Vec F S4096x9 .f32) (x3 : Vec F S4096x9 .f32) (x4 : Vec F S4096x9 .f32) (x5 : Vec F S4096x9 .f32) (x6 : Vec F S4096x9 .f32) (x7 : Vec F S4096x9 .f32) (x8 : Vec F S4096x9 .f32) (x9 : Vec F S4096x9 .f32) (x10 : Vec F S1x2 .f32) :
    out0_A_11 c arg0 harg0 arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 = kOut x0 x1 x2 x3 x4 x5 x6 x7 x8 x9 x10 := by
  unfold out0_A_11
  frame_out
  rw [nmsState_last]
  rfl

end Cert.KernelIdeal.Hand
-- ==== Proof.KernelRead.lean ====
module

public import proofs.«01_k».proof.Proof.KernelOut

@[expose] public section

set_option maxRecDepth 16384

noncomputable section

/-! The kernel's result array after the run, as a function of the argument arrays. -/

namespace Cert.KernelIdeal.Hand

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (ρ : Dev nD → PrngReg)

/-- The anchors, one row per grid cell. -/
def aAnc (a0 : FVec Ideal S36x64x64 .f32) : FVec Ideal S4096x36 .f32 :=
  shapeCast S4096x36 (transpose S64x64x36 [1, 2, 0] a0 transposes_S36x64x64_S64x64x36_1_2_0) shapeCasts_S64x64x36_S4096x36
/-- The scores in one row. -/
def aScores (a2 : FVec Ideal S4096x720 .f32) : FVec Ideal S2949120 .f32 := shapeCast S2949120 a2 shapeCasts_S4096x720_S2949120
/-- The 1024 largest scores and their positions. -/
def aTop (a2 : FVec Ideal S4096x720 .f32) : FVec Ideal S1024 .f32 × IVec S1024 32 :=
  Host.topK S1024 0 (FloatOps.cmpfTotal (F := Ideal) (φ := .f32) CmpDirection.gt) (aScores a2) sliceFits_S2949120_S1024
/-- The candidates' positions, as a column. -/
def aIdx (a2 : FVec Ideal S4096x720 .f32) : IVec S1024x1 32 := shapeCast S1024x1 (aTop a2).2 shapeCasts_S1024_S1024x1
/-- The candidates' scores, as a column. -/
def aRaw (a2 : FVec Ideal S4096x720 .f32) : FVec Ideal S1024x1 .f32 := shapeCast S1024x1 (aTop a2).1 shapeCasts_S1024_S1024x1
/-- The image's extents. -/
def aImg (a4 : IVec S2 32) : FVec Ideal S1x2 .f32 := shapeCast S1x2 (sitofp .f32 a4) shapeCasts_S2_S1x2

theorem V_v13 (c : Dev nD) : V m c main_v13 = aIdx (m ((c : Thread nD τ).loc main_arg2)) := by
  entry_read
  simp only [List.flatten_cons, List.flatten_nil, List.append_nil]
  after_results
  rfl
theorem V_v14 (c : Dev nD) : V m c main_v14 = aRaw (m ((c : Thread nD τ).loc main_arg2)) := by
  entry_read
  simp only [List.flatten_cons, List.flatten_nil, List.append_nil]
  after_results
  rfl
theorem V_v11 (c : Dev nD) : V m c main_v11 = aImg (m ((c : Thread nD τ).loc main_arg4)) := by
  entry_read
  simp only [List.flatten_cons, List.flatten_nil, List.append_nil]
  after_results
  rfl
theorem V_v2 (c : Dev nD) : V m c main_v2 = Host.slice S4096x9 ![0, 0] ![1, 4] (aAnc (m ((c : Thread nD τ).loc main_arg0))) slicesBy_S4096x36_S4096x9_0s1_0s4 := by
  entry_read
  simp only [List.flatten_cons, List.flatten_nil, List.append_nil]
  after_results
  rfl
theorem V_v6 (c : Dev nD) : V m c main_v6 = Host.slice S4096x9 ![0, 0] ![1, 4] (m ((c : Thread nD τ).loc main_arg3)) slicesBy_S4096x36_S4096x9_0s1_0s4 := by
  entry_read
  simp only [List.flatten_cons, List.flatten_nil, List.append_nil]
  after_results
theorem V_v3 (c : Dev nD) : V m c main_v3 = Host.slice S4096x9 ![0, 1] ![1, 4] (aAnc (m ((c : Thread nD τ).loc main_arg0))) slicesBy_S4096x36_S4096x9_0s1_1s4 := by
  entry_read
  simp only [List.flatten_cons, List.flatten_nil, List.append_nil]
  after_results
  rfl
theorem V_v7 (c : Dev nD) : V m c main_v7 = Host.slice S4096x9 ![0, 1] ![1, 4] (m ((c : Thread nD τ).loc main_arg3)) slicesBy_S4096x36_S4096x9_0s1_1s4 := by
  entry_read
  simp only [List.flatten_cons, List.flatten_nil, List.append_nil]
  after_results
theorem V_v4 (c : Dev nD) : V m c main_v4 = Host.slice S4096x9 ![0, 2] ![1, 4] (aAnc (m ((c : Thread nD τ).loc main_arg0))) slicesBy_S4096x36_S4096x9_0s1_2s4 := by
  entry_read
  simp only [List.flatten_cons, List.flatten_nil, List.append_nil]
  after_results
  rfl
theorem V_v8 (c : Dev nD) : V m c main_v8 = Host.slice S4096x9 ![0, 2] ![1, 4] (m ((c : Thread nD τ).loc main_arg3)) slicesBy_S4096x36_S4096x9_0s1_2s4 := by
  entry_read
  simp only [List.flatten_cons, List.flatten_nil, List.append_nil]
  after_results
theorem V_v5 (c : Dev nD) : V m c main_v5 = Host.slice S4096x9 ![0, 3] ![1, 4] (aAnc (m ((c : Thread nD τ).loc main_arg0))) slicesBy_S4096x36_S4096x9_0s1_3s4 := by
  entry_read
  simp only [List.flatten_cons, List.flatten_nil, List.append_nil]
  after_results
  rfl
theorem V_v9 (c : Dev nD) : V m c main_v9 = Host.slice S4096x9 ![0, 3] ![1, 4] (m ((c : Thread nD τ).loc main_arg3)) slicesBy_S4096x36_S4096x9_0s1_3s4 := by
  entry_read
  simp only [List.flatten_cons, List.flatten_nil, List.append_nil]
  after_results
theorem idx0 : ∀ t : Fin cfg0.N, win0_0.index t = ![0, 0] := (by decide +kernel : ∀ t : Fin grid0.N, _)
theorem iblk0 (c : Dev nD) (t : Fin cfg0.N) : iblk m c 0 t = V m c main_v13 := by
  funext j
  blk_ext [iblk, idx0 t]
theorem idx1 : ∀ t : Fin cfg0.N, win0_1.index t = ![0, 0] := (by decide +kernel : ∀ t : Fin grid0.N, _)
theorem iblk1 (c : Dev nD) (t : Fin cfg0.N) : iblk m c 1 t = V m c main_v14 := by
  funext j
  blk_ext [iblk, idx1 t]
theorem idx2 : ∀ t : Fin cfg0.N, win0_2.index t = ![0, 0] := (by decide +kernel : ∀ t : Fin grid0.N, _)
theorem iblk2 (c : Dev nD) (t : Fin cfg0.N) : iblk m c 2 t = V m c main_v2 := by
  funext j
  blk_ext [iblk, idx2 t]
theorem idx3 : ∀ t : Fin cfg0.N, win0_3.index t = ![0, 0] := (by decide +kernel : ∀ t : Fin grid0.N, _)
theorem iblk3 (c : Dev nD) (t : Fin cfg0.N) : iblk m c 3 t = V m c main_v3 := by
  funext j
  blk_ext [iblk, idx3 t]
theorem idx4 : ∀ t : Fin cfg0.N, win0_4.index t = ![0, 0] := (by decide +kernel : ∀ t : Fin grid0.N, _)
theorem iblk4 (c : Dev nD) (t : Fin cfg0.N) : iblk m c 4 t = V m c main_v4 := by
  funext j
  blk_ext [iblk, idx4 t]
theorem idx5 : ∀ t : Fin cfg0.N, win0_5.index t = ![0, 0] := (by decide +kernel : ∀ t : Fin grid0.N, _)
theorem iblk5 (c : Dev nD) (t : Fin cfg0.N) : iblk m c 5 t = V m c main_v5 := by
  funext j
  blk_ext [iblk, idx5 t]
theorem idx6 : ∀ t : Fin cfg0.N, win0_6.index t = ![0, 0] := (by decide +kernel : ∀ t : Fin grid0.N, _)
theorem iblk6 (c : Dev nD) (t : Fin cfg0.N) : iblk m c 6 t = V m c main_v6 := by
  funext j
  blk_ext [iblk, idx6 t]
theorem idx7 : ∀ t : Fin cfg0.N, win0_7.index t = ![0, 0] := (by decide +kernel : ∀ t : Fin grid0.N, _)
theorem iblk7 (c : Dev nD) (t : Fin cfg0.N) : iblk m c 7 t = V m c main_v7 := by
  funext j
  blk_ext [iblk, idx7 t]
theorem idx8 : ∀ t : Fin cfg0.N, win0_8.index t = ![0, 0] := (by decide +kernel : ∀ t : Fin grid0.N, _)
theorem iblk8 (c : Dev nD) (t : Fin cfg0.N) : iblk m c 8 t = V m c main_v8 := by
  funext j
  blk_ext [iblk, idx8 t]
theorem idx9 : ∀ t : Fin cfg0.N, win0_9.index t = ![0, 0] := (by decide +kernel : ∀ t : Fin grid0.N, _)
theorem iblk9 (c : Dev nD) (t : Fin cfg0.N) : iblk m c 9 t = V m c main_v9 := by
  funext j
  blk_ext [iblk, idx9 t]
theorem idx10 : ∀ t : Fin cfg0.N, win0_10.index t = ![0, 0] := (by decide +kernel : ∀ t : Fin grid0.N, _)
theorem iblk10 (c : Dev nD) (t : Fin cfg0.N) : iblk m c 10 t = V m c main_v11 := by
  funext j
  blk_ext [iblk, idx10 t]
theorem idx11 : ∀ t : Fin cfg0.N, win0_11.index t = ![0, 0] := (by decide +kernel : ∀ t : Fin grid0.N, _)

/-- The body's output block over the argument arrays. -/
def kBlock (a0 : FVec Ideal S36x64x64 .f32) (a2 : FVec Ideal S4096x720 .f32) (a3 : FVec Ideal S4096x36 .f32) (a4 : IVec S2 32) : FVec Ideal S8x128 .f32 :=
  kOut (F := Ideal) (aIdx a2) (aRaw a2) (Host.slice S4096x9 ![0, 0] ![1, 4] (aAnc a0) slicesBy_S4096x36_S4096x9_0s1_0s4) (Host.slice S4096x9 ![0, 1] ![1, 4] (aAnc a0) slicesBy_S4096x36_S4096x9_0s1_1s4) (Host.slice S4096x9 ![0, 2] ![1, 4] (aAnc a0) slicesBy_S4096x36_S4096x9_0s1_2s4) (Host.slice S4096x9 ![0, 3] ![1, 4] (aAnc a0) slicesBy_S4096x36_S4096x9_0s1_3s4)
    (Host.slice S4096x9 ![0, 0] ![1, 4] a3 slicesBy_S4096x36_S4096x9_0s1_0s4) (Host.slice S4096x9 ![0, 1] ![1, 4] a3 slicesBy_S4096x36_S4096x9_0s1_1s4) (Host.slice S4096x9 ![0, 2] ![1, 4] a3 slicesBy_S4096x36_S4096x9_0s1_2s4) (Host.slice S4096x9 ![0, 3] ![1, 4] a3 slicesBy_S4096x36_S4096x9_0s1_3s4) (aImg a4)

/-- The kernel's result over the argument arrays. -/
def kResult (a0 : FVec Ideal S36x64x64 .f32) (a2 : FVec Ideal S4096x720 .f32) (a3 : FVec Ideal S4096x36 .f32) (a4 : IVec S2 32) : FVec Ideal S100x6 .f32 :=
  extractStridedSlice S100x6 ![0, 0] (transpose S128x8 [1, 0] (kBlock a0 a2 a3 a4) transposes_S8x128_S128x8_1_0) slices_S128x8_S100x6_0_0

theorem final_block (c : Dev nD) : (dats m 0 c).arrAt 11 (cfgs 0).N =
    kBlock (m ((c : Thread nD τ).loc main_arg0)) (m ((c : Thread nD τ).loc main_arg2)) (m ((c : Thread nD τ).loc main_arg3)) (m ((c : Thread nD τ).loc main_arg4)) := by
  refine (dats m 0 c).arrAt_eq_of_after_last 11 t0_0 (by decide +kernel) _ fun j => ?_
  blk_simp
  rw [after0_11]; unfold outsAt0; rw [out0_eq]
  rw [iblk0, iblk1, iblk2, iblk3, iblk4, iblk5, iblk6, iblk7, iblk8, iblk9, iblk10, V_v13, V_v14, V_v2, V_v3, V_v4, V_v5, V_v6, V_v7, V_v8, V_v9, V_v11]
  rfl

theorem final_v17 (c : Dev nD) : Pipeline.afterTail₀ cfgs (dats m) 0 (V0 m) [hostOps1] c main_v17 =
    kResult (m ((c : Thread nD τ).loc main_arg0)) (m ((c : Thread nD τ).loc main_arg2)) (m ((c : Thread nD τ).loc main_arg3)) (m ((c : Thread nD τ).loc main_arg4)) := by
  unfold Pipeline.afterTail₀
  simp only [List.flatten_cons, List.flatten_nil, List.append_nil]
  after_results
  rw [show Pipeline.withArrays (cfgs 0).spec c (V0 m c) (fun w => (dats m 0 c).arrAt w (cfgs 0).N) (Proc.tc.devRef main_v15) = _ from
    (Pipeline.withArrays_arr (cfgs 0).spec (by decide) c (V0 m c) _ 11).trans (final_block m c)]
  rfl

/-- Every execution ends with the result array holding `kResult` of the arguments, which are unchanged. -/
theorem value : θ_run defs (onTc (τ := τ) (main (F := Ideal))) ⟨m, fun _ => 0, ρ⟩ (fun r => ∀ c : Dev nD,
      r.2.mem ((c.tc : Thread nD τ).loc main_v17) = kResult (m ((c : Thread nD τ).loc main_arg0)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  run_from run_main m ρ & unchanged m ρ
  exact final_v17 m _

end Cert.KernelIdeal.Hand
-- ==== Proof.SortMath.lean ====
module

public import Idealize.ShloMosaic.Lib.Pointwise
public import Idealize.ShloMosaic.Lib.SortFacts
public import Idealize.ShloMosaic.Lib.SortPrefix

@[expose] public section

noncomputable section

/-! A stable sort of extended reals, greater first: the positions in order, what a top-k reads of them, and
that a strictly monotone map of the keys leaves them. -/

namespace Cert.Detect

open Idealize.ShloMosaic

/-- Position `k` sorts before position `k'`: its key is greater. -/
def before {n : ℕ} (x : Fin n → EReal) (k k' : Fin n) : Bool := decide (x k' < x k)

/-- The positions, greater keys first, equal keys in position order. -/
def order {n : ℕ} (x : Fin n → EReal) : Fin n → Fin n := sortedFrom (before x)

/-- A rank-one index along its only axis. -/
theorem along_ix1 {n : ℕ} (j : (⟨1, ![n]⟩ : Shape).Idx) (k : Fin n) : j.along (0 : Fin 1) k = ix1 k := by
  rw [Shape.Idx.along_rank1]
  funext a
  have : a = 0 := Subsingleton.elim _ _
  subst this
  exact Fin.ext rfl

theorem topK_both {n k : ℕ} (x : (⟨1, ![n]⟩ : Shape).Idx → EReal) (h : (⟨1, ![n]⟩ : Shape).Slices (fun _ => 0) ⟨1, ![k]⟩)
    (hk : k ≤ n) (i : Fin k) :
    (Host.topK ⟨1, ![k]⟩ 0 (FloatOps.cmpfTotal (F := Ideal) (φ := .f32) .gt) x h).1 (ix1 i)
        = x (ix1 (order (fun p => x (ix1 p)) (i.castLE hk)))
      ∧ (Host.topK ⟨1, ![k]⟩ 0 (FloatOps.cmpfTotal (F := Ideal) (φ := .f32) .gt) x h).2 (ix1 i)
        = BitVec.ofNat 32 (order (fun p => x (ix1 p)) (i.castLE hk)).val := by
  have hb : ∀ a b : EReal, (FloatOps.cmpfTotal (F := Ideal) (φ := .f32) .gt a b == 1#1) = decide (b < a) := by
    intro a b
    show (BitVec.ofBool (decide (b < a)) == 1#1) = _
    by_cases hab : b < a <;> simp [hab]
  have hr : (0 : ℕ) < (⟨1, ![n]⟩ : Shape).rank := Nat.one_pos
  unfold Host.topK
  dsimp only
  unfold Host.sort2
  rw [dif_pos hr]
  have ha : ∀ (j : (⟨1, ![n]⟩ : Shape).Idx) (p : Fin n), j.along (⟨0, hr⟩ : Fin (⟨1, ![n]⟩ : Shape).rank) p = ix1 p :=
    fun j p => along_ix1 j p
  have hs : ∀ {α : Type} (v : (⟨1, ![n]⟩ : Shape).Idx → α), extractStridedSlice ⟨1, ![k]⟩ (fun _ => 0) v h (ix1 i) = v (ix1 (i.castLE hk)) := by
    intro α v
    unfold extractStridedSlice
    congr 1
    funext a
    have : a = 0 := Subsingleton.elim _ _
    subst this
    exact Fin.ext (Nat.zero_add _)
  have hidx : (ix1 (i.castLE hk) : (⟨1, ![n]⟩ : Shape).Idx).along (⟨0, hr⟩ : Fin (⟨1, ![n]⟩ : Shape).rank)
      (sortedFrom (n := n) (fun a b => decide (x ((ix1 (i.castLE hk) : (⟨1, ![n]⟩ : Shape).Idx).along (⟨0, hr⟩ : Fin (⟨1, ![n]⟩ : Shape).rank) b)
        < x ((ix1 (i.castLE hk) : (⟨1, ![n]⟩ : Shape).Idx).along (⟨0, hr⟩ : Fin (⟨1, ![n]⟩ : Shape).rank) a))) (i.castLE hk))
      = ix1 (order (fun p => x (ix1 p)) (i.castLE hk)) := by
    rw [ha]
    unfold order before
    congr 2
    funext a b
    rw [ha, ha]
  rw [hs, hs]
  simp only [hb]
  refine ⟨congrArg x hidx, ?_⟩
  rw [dif_pos hr]
  exact (congrArg (fun q => iotaInDim ⟨1, ![n]⟩ 32 ⟨0, hr⟩ q) hidx)

/-- The sort orders positions: keys decreasing, and among equal keys positions increasing. -/
def beforeT {n : ℕ} (x : Fin n → EReal) (k k' : Fin n) : Bool :=
  decide (x k' < x k) || (decide (x k = x k') && decide (k < k'))

theorem beforeT_total {n : ℕ} (x : Fin n → EReal) : StrictTotalBefore (beforeT x) :=
  StrictTotalBefore.of_key_then_position (fun a b => decide (b < a)) x (by simp)
    (by simp only [decide_eq_true_eq]; exact fun a b c hab hbc => hbc.trans hab)
    (by simp only [decide_eq_true_eq]; intro a b; rcases lt_trichotomy a b with h | h | h <;> simp [h])

theorem stableSort_tie {ι : Type} (R R' : ι → ι → Bool) (l : List ι) (hl : l.Pairwise fun a b => R b a = R' b a) :
    stableSort R l = stableSort R' l := by
  induction l with
  | nil => rfl
  | cons a l ih =>
    rw [List.pairwise_cons] at hl
    unfold stableSort
    rw [ih hl.2]
    exact insertBefore_congr R R' a _ fun b hb => hl.1 b ((perm_stableSort R' l).mem_iff.mp hb)

theorem order_eq {n : ℕ} (x : Fin n → EReal) : order x = sortedFrom (beforeT x) := by
  unfold order
  funext k
  unfold sortedFrom
  have : sortPositions n (before x) = sortPositions n (beforeT x) := by
    refine stableSort_tie _ _ _ ?_
    refine (List.pairwise_lt_finRange n).imp fun {a b} hab => ?_
    have : ¬ b < a := not_lt.mpr hab.le
    simp [before, beforeT, this]
  rw [List.get_of_eq this]
  rfl

theorem order_injective {n : ℕ} (x : Fin n → EReal) : Function.Injective (order x) := sortedFrom_injective _
theorem order_surjective {n : ℕ} (x : Fin n → EReal) : Function.Surjective (order x) := sortedFrom_surjective _

/-- A position not among the first `i` and different from the `i`-th has a smaller key, or an equal one and comes later. -/
theorem order_spec {n : ℕ} (x : Fin n → EReal) (i p : Fin n) (hp : ∀ j, j ≤ i → order x j ≠ p) :
    x p < x (order x i) ∨ (x p = x (order x i) ∧ order x i < p) := by
  obtain ⟨j, rfl⟩ := order_surjective x p
  have hij : i < j := lt_of_not_ge fun h => hp j h rfl
  have hne : order x i ≠ order x j := fun h => absurd (order_injective x h) hij.ne
  have h := sortedFrom_noInversion (beforeT x) (beforeT x) (fun a b h => (beforeT_total x).asymm a b h) (fun _ _ h => h)
    (beforeT_total x).negTrans i j hij
  rw [← order_eq] at h
  rcases (beforeT_total x).total _ _ hne with h' | h'
  · simp only [beforeT, Bool.or_eq_true, Bool.and_eq_true, decide_eq_true_eq] at h'
    exact h'.imp id fun e => ⟨e.1.symm, e.2⟩
  · rw [h'] at h; exact absurd h (by decide)

/-- A strictly monotone map of the keys leaves the order. -/
theorem order_mono {n : ℕ} (x : Fin n → EReal) (f : EReal → EReal) (hf : StrictMono f) : order (fun k => f (x k)) = order x := by
  unfold order
  congr 1
  funext k k'
  simp [before, hf.lt_iff_lt]

end Cert.Detect
-- ==== Proof.Spec.lean ====
module

public import proofs.«01_k».proof.Proof.SortMath

@[expose] public section

noncomputable section

/-! The detections both programs select, as functions of the thousand candidates. -/

namespace Cert.Detect

open Idealize.ShloMosaic

/-- The candidates: score, box and class of each. -/
structure Det where
  sc : Fin 1000 → EReal
  box : Fin 4 → Fin 1000 → EReal
  lab : Fin 1000 → EReal

namespace Det

variable (d : Det)

/-- The largest coordinate. -/
def mx : EReal := Finset.univ.sup (fun x : Fin 1000 × Fin 4 => d.box x.2 x.1)
/-- A box moved by its class's offset, over the largest coordinate `M`. -/
def nb (M : EReal) (c : Fin 4) (i : Fin 1000) : EReal := d.box c i + d.lab i * (M + 1)
/-- The moved box's area. -/
def area (M : EReal) (i : Fin 1000) : EReal := max (d.nb M 2 i - d.nb M 0 i) 0 * max (d.nb M 3 i - d.nb M 1 i) 0
/-- The area two moved boxes share. -/
def inter (M : EReal) (i j : Fin 1000) : EReal :=
  max (min (d.nb M 2 i) (d.nb M 2 j) - max (d.nb M 0 i) (d.nb M 0 j)) 0 * max (min (d.nb M 3 i) (d.nb M 3 j) - max (d.nb M 1 i) (d.nb M 1 j)) 0
/-- Intersection over union. -/
def iou (M : EReal) (i j : Fin 1000) : EReal :=
  Ideal.div (d.inter M i j) (d.area M i + d.area M j - d.inter M i j + Ideal.ofBits .f32 814313567#32)
/-- Candidate `i` covers the later candidate `j`. -/
def covers (i j : Fin 1000) : Prop := Ideal.ofBits .f32 1056964608#32 < d.iou d.mx i j ∧ i < j
/-- The score passes the threshold. -/
def valid (i : Fin 1000) : Prop := Ideal.ofBits .f32 1028443341#32 < d.sc i
/-- The candidates kept after the first `k` suppression steps. -/
def keep : ℕ → Fin 1000 → Prop
  | 0, _ => True
  | k + 1, j => keep k j ∧ ¬ ∃ h : k < 1000, d.covers ⟨k, h⟩ j ∧ keep k ⟨k, h⟩ ∧ d.valid ⟨k, h⟩
open scoped Classical in
/-- The score of a kept candidate, minus infinity for the others. -/
def final (i : Fin 1000) : EReal := if d.keep 1000 i ∧ d.valid i then d.sc i else ⊥
/-- The candidate that is selected in place `n`. -/
def pick (n : Fin 1000) : Fin 1000 := order d.final n
open scoped Classical in
/-- The result's rows: the box, the score and the class. -/
def out (n : Fin 100) (c : Fin 6) : EReal :=
  let p := d.pick (n.castLE (by decide))
  if d.final p = ⊥ then (if c.val < 5 then 0 else -1)
  else if h : c.val < 4 then d.box ⟨c.val, h⟩ p else if c.val < 5 then d.final p else d.lab p

theorem keep_succ (k : ℕ) (h : k < 1000) (j : Fin 1000) :
    d.keep (k + 1) j ↔ d.keep k j ∧ ¬ (d.covers ⟨k, h⟩ j ∧ d.keep k ⟨k, h⟩ ∧ d.valid ⟨k, h⟩) := by
  simp only [keep, exists_prop_of_true h]

end Det

/-- An invariant carried through a fold over `Fin T`. -/
theorem foldl_finRange {α : Type} (T : ℕ) (g : Fin T → α → α) (P : ℕ → α → Prop) (a : α) (h0 : P 0 a)
    (hs : ∀ (k : Fin T) (b : α), P k.val b → P (k.val + 1) (g k b)) :
    P T ((List.finRange T).foldl (fun b k => g k b) a) := by
  induction T with
  | zero => simpa using h0
  | succ n ih =>
    rw [List.finRange_succ_last, List.foldl_append, List.foldl_map]
    exact hs (Fin.last n) _ (ih (fun k => g k.castSucc) fun k b hb => hs k.castSucc b hb)

/-- A maximum folded from minus infinity over one row. -/
theorem fold_max_row {n : ℕ} (g : Fin n → EReal) (j0 : Fin n) (h : ∀ j, g j ≤ g j0) :
    Finset.fold max ⊥ (fun x : Fin 1 × Fin n => g x.2) Finset.univ = g j0 := by
  refine eq_of_forall_ge_iff fun c => ?_
  rw [Finset.fold_max_le]
  constructor
  · rintro ⟨_, hh⟩; exact hh (0, j0) (Finset.mem_univ _)
  · intro hc; exact ⟨bot_le, fun x _ => (h x.2).trans hc⟩

open scoped Classical in
/-- The least place of the maximum, as a minimum folded over one row. -/
theorem fold_min_row {n : ℕ} (g v : Fin n → EReal) (j0 : Fin n) (B : EReal) (hB : v j0 ≤ B)
    (h : ∀ j, g j = g j0 → v j0 ≤ v j) :
    Finset.fold min ⊤ (fun x : Fin 1 × Fin n => if g x.2 = g j0 then v x.2 else B) Finset.univ = v j0 := by
  refine eq_of_forall_le_iff fun c => ?_
  rw [Finset.le_fold_min]
  constructor
  · rintro ⟨_, hh⟩; simpa using hh (0, j0) (Finset.mem_univ _)
  · intro hc
    refine ⟨le_top, fun x _ => ?_⟩
    split
    · next e => exact hc.trans (h _ e)
    · exact hc.trans hB

/-- The kernel's running maximum is the largest coordinate, or zero if that is larger. -/
theorem max_boxes (b : Fin 4 → Fin 1000 → EReal) (f : Fin 4 → Fin 1024 → EReal)
    (hf : ∀ c (j : Fin 1024), f c j = if h : j.val < 1000 then b c ⟨j.val, h⟩ else 0) :
    max (max (max (max 0 (Finset.fold max ⊥ (fun x : Fin 1024 × Fin 1 => f 0 x.1) Finset.univ))
      (Finset.fold max ⊥ (fun x : Fin 1024 × Fin 1 => f 1 x.1) Finset.univ))
      (Finset.fold max ⊥ (fun x : Fin 1024 × Fin 1 => f 2 x.1) Finset.univ))
      (Finset.fold max ⊥ (fun x : Fin 1024 × Fin 1 => f 3 x.1) Finset.univ)
    = max 0 (Finset.univ.sup (fun x : Fin 1000 × Fin 4 => b x.2 x.1)) := by
  refine eq_of_forall_ge_iff fun c => ?_
  simp only [max_le_iff, Finset.fold_max_le, Finset.sup_le_iff, bot_le, true_and, Finset.mem_univ, forall_true_left, Prod.forall]
  constructor
  · rintro ⟨⟨⟨⟨h, h0⟩, h1⟩, h2⟩, h3⟩
    refine ⟨h, fun i k => ?_⟩
    have e : ∀ k, f k (i.castLE (by decide)) = b k i := fun k => by rw [hf, dif_pos (by exact i.isLt)]; rfl
    rw [← e k]
    fin_cases k
    · exact h0 _ 0
    · exact h1 _ 0
    · exact h2 _ 0
    · exact h3 _ 0
  · rintro ⟨h0, h⟩
    have e : ∀ k j, f k j ≤ c := fun k j => by
      rw [hf]; split
      · exact h _ _
      · exact h0
    exact ⟨⟨⟨⟨h0, fun j _ => e _ _⟩, fun j _ => e _ _⟩, fun j _ => e _ _⟩, fun j _ => e _ _⟩

/-- A sum with one nonzero term. -/
theorem sum_pick {n : ℕ} (f : Fin n → EReal) (j : Fin n) (h : ∀ i, i ≠ j → f i = 0) : ∑ i, f i = f j :=
  Finset.sum_eq_single j (fun i _ => h i) (fun h => absurd (Finset.mem_univ _) h)

/-- The logistic function on the extended reals. -/
def sigm (x : EReal) : EReal := Ideal.div 1 (1 + Ideal.exp (0 - x))

theorem exp_bot : Ideal.exp ⊥ = 0 := rfl
theorem exp_top : Ideal.exp ⊤ = ⊤ := rfl
theorem exp_coe (r : ℝ) : Ideal.exp (r : EReal) = (Real.exp r : EReal) := rfl

theorem sigm_coe (r : ℝ) : sigm (r : EReal) = ((1 + Real.exp (-r))⁻¹ : ℝ) := by
  unfold sigm
  rw [show (0 : EReal) - (r : EReal) = ((-r : ℝ) : EReal) by simp, exp_coe]
  have h : (1 : EReal) + (Real.exp (-r) : EReal) = ((1 + Real.exp (-r) : ℝ) : EReal) := by push_cast; rfl
  rw [h]
  have h0 : ((1 + Real.exp (-r) : ℝ) : EReal) ≠ 0 := by
    have : (1 + Real.exp (-r) : ℝ) ≠ 0 := by positivity
    exact_mod_cast this
  rw [Ideal.div, if_neg h0, one_mul, EReal.coe_inv]
theorem sigm_bot : sigm ⊥ = 0 := by
  unfold sigm
  rw [show (0 : EReal) - ⊥ = ⊤ by simp, exp_top, show (1 : EReal) + ⊤ = ⊤ from rfl, Ideal.div, if_neg (by simp)]
  simp
theorem sigm_top : sigm ⊤ = 1 := by
  unfold sigm
  rw [show (0 : EReal) - ⊤ = ⊥ by simp, exp_bot, add_zero, Ideal.div, if_neg (by simp)]
  simp
theorem real_pos (r : ℝ) : 0 < (1 + Real.exp (-r))⁻¹ := by positivity
theorem real_lt (r : ℝ) : (1 + Real.exp (-r))⁻¹ < 1 := by
  have := Real.exp_pos (-r)
  exact inv_lt_one_of_one_lt₀ (by linarith)
theorem sigm_strictMono : StrictMono sigm := by
  intro a b h
  induction a using EReal.rec with
  | bot =>
    induction b using EReal.rec with
    | bot => exact absurd h (lt_irrefl _)
    | coe b => rw [sigm_bot, sigm_coe]; exact_mod_cast real_pos b
    | top => rw [sigm_bot, sigm_top]; exact zero_lt_one
  | coe a =>
    induction b using EReal.rec with
    | bot => exact absurd h not_lt_bot
    | coe b =>
      rw [sigm_coe, sigm_coe]
      have hab : a < b := by exact_mod_cast h
      have : (1 + Real.exp (-a))⁻¹ < (1 + Real.exp (-b))⁻¹ := by
        apply inv_strictAnti₀ (by positivity)
        have := Real.exp_lt_exp.2 (neg_lt_neg hab)
        linarith
      exact_mod_cast this
    | top => rw [sigm_coe, sigm_top]; exact_mod_cast real_lt a
  | top => exact absurd h not_top_lt
theorem sigm_nonneg (x : EReal) : 0 ≤ sigm x := by
  rw [← sigm_bot]; exact sigm_strictMono.monotone bot_le
theorem sigm_le_one (x : EReal) : sigm x ≤ 1 := by
  rw [← sigm_top]; exact sigm_strictMono.monotone le_top

/-- A box's centre along one axis. -/
def ctr (a b t : EReal) : EReal := t * (b - a) + (a + Ideal.ofBits .f32 1056964608#32 * (b - a))
/-- The largest logarithm of a scale: the logarithm of 1000/16. -/
def scaleMax : EReal := ((Real.log (125 / 2) : ℝ) : EReal)
/-- A box's length along one axis. -/
def len (a b t : EReal) : EReal := Ideal.exp (min t scaleMax) * (b - a)
/-- A box's lower edge along one axis, clipped to the image. -/
def lo (a b t l w : EReal) : EReal := min w (max 0 (ctr a b t - Ideal.ofBits .f32 1056964608#32 * len a b l))
/-- The upper edge. -/
def hi (a b t l w : EReal) : EReal := min w (max 0 (ctr a b t + Ideal.ofBits .f32 1056964608#32 * len a b l))

/-- The edges of the decoded boxes, over the anchors and regressions of a cell's row. -/
def edge (anc reg : Fin 36 → EReal) (w h : EReal) (a : Fin 9) (c : Fin 4) : EReal :=
  let k (n : ℕ) (hn : n < 4) : Fin 36 := ⟨n + 4 * a.val, by omega⟩
  ![lo (anc (k 0 (by decide))) (anc (k 2 (by decide))) (reg (k 0 (by decide))) (reg (k 2 (by decide))) w,
    lo (anc (k 1 (by decide))) (anc (k 3 (by decide))) (reg (k 1 (by decide))) (reg (k 3 (by decide))) h,
    hi (anc (k 0 (by decide))) (anc (k 2 (by decide))) (reg (k 0 (by decide))) (reg (k 2 (by decide))) w,
    hi (anc (k 1 (by decide))) (anc (k 3 (by decide))) (reg (k 1 (by decide))) (reg (k 3 (by decide))) h] c

/-- A score's row, and its anchor. -/
def rowOf (q : Fin 2949120) : Fin 4096 := ⟨q.val / 720, by omega⟩
@[inherit_doc rowOf]
def ancOf (q : Fin 2949120) : Fin 9 := ⟨q.val % 720 / 80, by omega⟩

/-- The candidates that stand at the places `q` of the scores `s`, with their boxes and classes. -/
def candsAt (s : Fin 2949120 → EReal) (anc reg : Fin 4096 → Fin 36 → EReal) (w h : EReal) (q : Fin 1000 → Fin 2949120) : Det where
  sc i := sigm (s (q i))
  box c i := edge (anc (rowOf (q i))) (reg (rowOf (q i))) w h (ancOf (q i)) c
  lab i := (((q i).val % 80 : ℕ) : ℝ)

/-- The candidates: the thousand best scores in order. -/
def cands (s : Fin 2949120 → EReal) (anc reg : Fin 4096 → Fin 36 → EReal) (w h : EReal) : Det :=
  candsAt s anc reg w h fun i => order s (i.castLE (by decide))

theorem candsAt_at (s : Fin 2949120 → EReal) (anc reg : Fin 4096 → Fin 36 → EReal) (w h : EReal) (q : Fin 1000 → Fin 2949120) (i : Fin 1000) (p : Fin 2949120) (hp : q i = p) :
    (candsAt s anc reg w h q).sc i = sigm (s p)
    ∧ (∀ c, (candsAt s anc reg w h q).box c i = edge (anc (rowOf p)) (reg (rowOf p)) w h (ancOf p) c)
    ∧ (candsAt s anc reg w h q).lab i = ((p.val % 80 : ℕ) : ℝ) := by
  subst hp
  exact ⟨rfl, fun _ => rfl, rfl⟩
/-- A candidate's score, box and class. -/
theorem cands_at (s : Fin 2949120 → EReal) (anc reg : Fin 4096 → Fin 36 → EReal) (w h : EReal) (i : Fin 1000) (p : Fin 2949120)
    (hp : order s (i.castLE (by decide)) = p) :
    (cands s anc reg w h).sc i = sigm (s p)
    ∧ (∀ c, (cands s anc reg w h).box c i = edge (anc (rowOf p)) (reg (rowOf p)) w h (ancOf p) c)
    ∧ (cands s anc reg w h).lab i = ((p.val % 80 : ℕ) : ℝ) :=
  candsAt_at s anc reg w h _ i p hp

section best
variable (s : Fin 2949120 → EReal) (anc reg : Fin 4096 → Fin 36 → EReal) (w h : EReal) (i : Fin 1000)
theorem cands_sc : (cands s anc reg w h).sc i = sigm (s (order s (i.castLE (by decide)))) := (cands_at s anc reg w h i _ rfl).1
theorem cands_box (c : Fin 4) : (cands s anc reg w h).box c i =
    edge (anc (rowOf (order s (i.castLE (by decide))))) (reg (rowOf (order s (i.castLE (by decide))))) w h (ancOf (order s (i.castLE (by decide)))) c :=
  (cands_at s anc reg w h i _ rfl).2.1 c
theorem cands_lab : (cands s anc reg w h).lab i = (((order s (i.castLE (by decide))).val % 80 : ℕ) : ℝ) := (cands_at s anc reg w h i _ rfl).2.2
end best

section extents
variable (s : Fin 2949120 → EReal) (anc reg : Fin 4096 → Fin 36 → EReal) (w h : ℝ) (q : Fin 1000 → Fin 2949120)

theorem clip_le {x w : EReal} (hx : min w (max 0 x) < 0) : w < 0 := by
  by_contra hw
  exact absurd hx (not_lt.2 (le_min (not_lt.1 hw) (le_max_left _ _)))
theorem clip_eq {x w : EReal} (hw : w < 0) : min w (max 0 x) = w := min_eq_left (hw.le.trans (le_max_left _ _))

/-- Boxes without extent share no area and have none, wherever their classes move them. -/
theorem iou_flat (d : Det) (hx : ∀ i, d.box 0 i = (w : EReal) ∧ d.box 2 i = (w : EReal)) (hy : ∀ i, d.box 1 i = (h : EReal) ∧ d.box 3 i = (h : EReal))
    (l : Fin 1000 → ℝ) (hl : ∀ i, d.lab i = (l i : EReal)) (M : ℝ) (i j : Fin 1000) :
    d.iou (M : EReal) i j = Ideal.div 0 (0 + 0 - 0 + Ideal.ofBits .f32 814313567#32) := by
  have real : ∀ (x : ℝ) i, ∃ p : ℝ, (x : EReal) + d.lab i * ((M : EReal) + 1) = (p : EReal) := fun x i =>
    ⟨x + l i * (M + 1), by rw [hl]; push_cast; rfl⟩
  have self : ∀ p : ℝ, max ((p : EReal) - (p : EReal)) 0 = 0 := fun p => by rw [← EReal.coe_sub, sub_self]; simp
  have two : ∀ p q : ℝ, max (min (p : EReal) (q : EReal) - max (p : EReal) (q : EReal)) 0 = 0 := fun p q => by
    refine max_eq_right ?_
    rw [← EReal.coe_strictMono.monotone.map_min, ← EReal.coe_strictMono.monotone.map_max, ← EReal.coe_sub]
    have : min p q - max p q ≤ 0 := sub_nonpos.2 min_le_max
    exact_mod_cast this
  have ha : ∀ i, d.area M i = 0 := fun i => by
    obtain ⟨p, hp⟩ := real w i
    simp only [Det.area, Det.nb, (hx i).1, (hx i).2, hp, self, zero_mul]
  have hi : d.inter M i j = 0 := by
    obtain ⟨p, hp⟩ := real w i
    obtain ⟨q, hq⟩ := real w j
    simp only [Det.inter, Det.nb, (hx _).1, (hx _).2, hp, hq, two, zero_mul]
  rw [Det.iou, ha, ha, hi]

/-- A largest coordinate below zero may be replaced by zero where the boxes are clipped to an extent: the overlaps are the same. -/
theorem iou_max (d : Det) (w h : ℝ)
    (e0 : ∀ i, ∃ t, d.box 0 i = min (w : EReal) (max 0 t)) (e1 : ∀ i, ∃ t, d.box 1 i = min (h : EReal) (max 0 t))
    (e2 : ∀ i, ∃ t, d.box 2 i = min (w : EReal) (max 0 t)) (e3 : ∀ i, ∃ t, d.box 3 i = min (h : EReal) (max 0 t))
    (hl : ∀ i, ∃ l : ℝ, d.lab i = (l : EReal)) (i j : Fin 1000) : d.iou (max 0 d.mx) i j = d.iou d.mx i j := by
  rcases le_or_gt 0 d.mx with hm | hm
  · rw [max_eq_right hm]
  have hle : ∀ c i, d.box c i ≤ d.mx := fun c i =>
    Finset.le_sup (f := fun x : Fin 1000 × Fin 4 => d.box x.2 x.1) (Finset.mem_univ (i, c))
  have neg : ∀ c (x t : EReal), d.box c 0 = min x (max 0 t) → x < 0 := fun c x t e => clip_le (x := t) (by rw [← e]; exact (hle c 0).trans_lt hm)
  have flat : ∀ c i (x : EReal), x < 0 → (∃ t, d.box c i = min x (max 0 t)) → d.box c i = x := fun c i x hx ⟨t, e⟩ => e.trans (clip_eq hx)
  have hw : (w : EReal) < 0 := (e0 0).elim (neg 0 _)
  have hh : (h : EReal) < 0 := (e1 0).elim (neg 1 _)
  have hx : ∀ i, d.box 0 i = (w : EReal) ∧ d.box 2 i = (w : EReal) := fun i => ⟨flat _ _ _ hw (e0 i), flat _ _ _ hw (e2 i)⟩
  have hy : ∀ i, d.box 1 i = (h : EReal) ∧ d.box 3 i = (h : EReal) := fun i => ⟨flat _ _ _ hh (e1 i), flat _ _ _ hh (e3 i)⟩
  have hlow : (w : EReal) ≤ d.mx := (hx 0).1 ▸ hle 0 0
  have hM : (d.mx.toReal : EReal) = d.mx := EReal.coe_toReal (hm.trans_le le_top).ne ((EReal.bot_lt_coe w).trans_le hlow).ne'
  choose l hl using hl
  rw [max_eq_left hm.le, ← hM, ← EReal.coe_zero, iou_flat w h _ hx hy l hl, iou_flat w h _ hx hy l hl]

/-- Every edge is clipped to the extent along its axis. -/
theorem edge_clip (anc reg : Fin 36 → EReal) (w h : ℝ) (a : Fin 9) (c : Fin 4) :
    ∃ t, edge anc reg w h a c = min ((![w, h, w, h] c : ℝ) : EReal) (max 0 t) := by
  fin_cases c
  · exact ⟨_, rfl⟩
  · exact ⟨_, rfl⟩
  · exact ⟨_, rfl⟩
  · exact ⟨_, rfl⟩

/-- So it may for candidates. -/
theorem candsAt_overlap (i j : Fin 1000) :
    (candsAt s anc reg w h q).iou (max 0 (candsAt s anc reg w h q).mx) i j = (candsAt s anc reg w h q).iou (candsAt s anc reg w h q).mx i j :=
  iou_max _ w h (fun i => edge_clip _ _ w h _ 0) (fun i => edge_clip _ _ w h _ 1) (fun i => edge_clip _ _ w h _ 2)
    (fun i => edge_clip _ _ w h _ 3) (fun i => ⟨_, rfl⟩) i j
theorem cands_overlap (i j : Fin 1000) :
    (cands s anc reg w h).iou (max 0 (cands s anc reg w h).mx) i j = (cands s anc reg w h).iou (cands s anc reg w h).mx i j := by
  unfold cands
  exact candsAt_overlap s anc reg w h _ i j

end extents

end Cert.Detect
-- ==== Proof.KernelNms.lean ====
module

public import proofs.«01_k».proof.Proof.KernelRead
public import proofs.«01_k».proof.Proof.Spec
public import Idealize.ShloMosaic.Lib.Pointwise

@[expose] public section

set_option maxRecDepth 16384

noncomputable section

/-! The suppression matrix and the suppression loop of the kernel, read at an index. -/

namespace Cert.KernelIdeal.Hand

open Cert.KernelIdeal Cert.KernelIdeal.Gen
open Idealize.ShloMosaic Idealize.ShloMosaic.TcCoe Idealize.ShloMosaic.Tactic
open Cert.Detect

/-- A candidate's place among the 1024 rows. -/
def up (i : Fin 1000) : Fin 1024 := ⟨i.val, by have := i.isLt; omega⟩
theorem up_val (i : Fin 1000) : (up i).val = i.val := rfl
theorem up_inj {i j : Fin 1000} : up i = up j ↔ i = j := by simp [up, Fin.ext_iff]

theorem select_ofBool {α : Type} (b : Bool) (x y : α) : Scalar.select (BitVec.ofBool b) x y = if b then x else y := by
  cases b <;> rfl
theorem bits_bot : Ideal.ofBits .f32 4286578688#32 = (⊥ : EReal) := by simp [Ideal.ofBits, Ideal.ieee]
theorem bits_top : Ideal.ofBits .f32 2139095040#32 = (⊤ : EReal) := by simp [Ideal.ofBits, Ideal.ieee]

theorem slt1000 {n : ℕ} (h : n < 1024) : IntOp.cmpi .slt (BitVec.ofNat 32 n) 1000#32 = BitVec.ofBool (decide (n < 1000)) := by
  word_cmp
theorem sgt_ofNat {m n : ℕ} (hm : m < 1024) (hn : n < 1024) :
    IntOp.cmpi .sgt (BitVec.ofNat 32 m) (BitVec.ofNat 32 n) = BitVec.ofBool (decide (n < m)) := by
  word_cmp
theorem eq_ofNat {m n : ℕ} (hm : m < 4096) (hn : n < 4096) :
    IntOp.cmpi .eq (BitVec.ofNat 32 m) (BitVec.ofNat 32 n) = BitVec.ofBool (decide (m = n)) := by
  word_cmp

/-- The columns hold the candidates in their first thousand rows. -/
structure Holds (d : Det) (x L B0 B1 B2 B3 : FVec Ideal S1024x1 .f32) : Prop where
  sc : ∀ i, sigm (x (ix2 (up i) 0)) = d.sc i
  lab : ∀ i, L (ix2 (up i) 0) = d.lab i
  b0 : ∀ i, B0 (ix2 (up i) 0) = d.box 0 i
  b1 : ∀ i, B1 (ix2 (up i) 0) = d.box 1 i
  b2 : ∀ i, B2 (ix2 (up i) 0) = d.box 2 i
  b3 : ∀ i, B3 (ix2 (up i) 0) = d.box 3 i
  overlap : ∀ i j, d.iou (max 0 d.mx) i j = d.iou d.mx i j

theorem pay35_at (x : FVec Ideal S1024x1 .f32) (j : Fin 1024) : k0_pay35 (F := Ideal) x (ix2 j 0) = sigm (x (ix2 j 0)) := by
  unfold sigm
  pointwise [k0_pay35]

open scoped Classical in
theorem pay37_at (x : FVec Ideal S1024x1 .f32) (j : Fin 1024) : k0_pay37 (F := Ideal) x (ix2 j 0) =
    BitVec.ofBool (decide (Ideal.ofBits .f32 1028443341#32 < sigm (x (ix2 j 0)) ∧ j.val < 1000)) := by
  have e : k0_pay37 (F := Ideal) x (ix2 j 0) = IntOp.andi (BitVec.ofBool (decide (Ideal.ofBits FTy.f32 1028443341#32 < k0_pay35 x (ix2 j 0))))
      (IntOp.cmpi CmpIPredicate.slt (BitVec.ofNat 32 ↑j) 1000#32) := by
    pointwise [k0_pay37, k0_pay36]
  rw [e, pay35_at, slt1000 j.isLt]
  by_cases h1 : Ideal.ofBits .f32 1028443341#32 < sigm (x (ix2 j 0)) <;> by_cases h2 : j.val < 1000 <;> simp [h1, h2, IntOp.andi]

variable {d : Det} {x L B0 B1 B2 B3 : FVec Ideal S1024x1 .f32} (H : Holds d x L B0 B1 B2 B3)

/-- A column, zero outside the first thousand rows. -/
def masked (B : FVec Ideal S1024x1 .f32) (j : Fin 1024) : EReal :=
  Scalar.select (IntOp.cmpi CmpIPredicate.slt (BitVec.ofNat 32 j.val) 1000#32) (B (ix2 j 0)) 0

include H in
theorem mx_eq :
    max (max (max (max 0 (Finset.fold max ⊥ (fun x : Fin 1024 × Fin 1 => masked B0 x.1) Finset.univ))
      (Finset.fold max ⊥ (fun x : Fin 1024 × Fin 1 => masked B1 x.1) Finset.univ))
      (Finset.fold max ⊥ (fun x : Fin 1024 × Fin 1 => masked B2 x.1) Finset.univ))
      (Finset.fold max ⊥ (fun x : Fin 1024 × Fin 1 => masked B3 x.1) Finset.univ) = max 0 d.mx := by
  refine max_boxes d.box (fun c => masked (![B0, B1, B2, B3] c)) fun c j => ?_
  rw [masked, slt1000 j.isLt, select_ofBool]
  by_cases h : j.val < 1000
  · simp only [h, decide_true, if_true, dif_pos]
    fin_cases c
    · exact H.b0 ⟨j.val, h⟩
    · exact H.b1 ⟨j.val, h⟩
    · exact H.b2 ⟨j.val, h⟩
    · exact H.b3 ⟨j.val, h⟩
  · simp [h]

/-- The column form the kernel passes on. -/
abbrev colB2 (B2 : FVec Ideal S1024x1 .f32) : FVec Ideal S1x1024x1 .f32 :=
  shapeCast S1x1024x1 (select k0_pay36 B2 (broadcast S1024x1 (Scalar.ofBits .f32 0x00000000#32))) shapeCasts_S1024x1_S1x1024x1

include H in
theorem pay41_at (i : Fin 1000) : k0_pay41 L B0 B3 k0_pay36 (k0_pay38 B0 B1) (colB2 B2) (ix2 (up i) 0) = d.nb (max 0 d.mx) 0 i := by
  rw [Det.nb, ← mx_eq H, ← H.lab, ← H.b0]
  simp only [masked, ← bits_bot]
  pointwise [k0_pay41, k0_pay39, k0_pay40, k0_pay38, k0_pay36, colB2]
include H in
theorem pay42_at (i : Fin 1000) : k0_pay42 L B1 B3 k0_pay36 (k0_pay38 B0 B1) (colB2 B2) (ix2 (up i) 0) = d.nb (max 0 d.mx) 1 i := by
  rw [Det.nb, ← mx_eq H, ← H.lab, ← H.b1]
  simp only [masked, ← bits_bot]
  pointwise [k0_pay42, k0_pay39, k0_pay40, k0_pay38, k0_pay36, colB2]
include H in
theorem pay43_at (i : Fin 1000) : k0_pay43 L B2 B3 k0_pay36 (k0_pay38 B0 B1) (colB2 B2) (ix2 (up i) 0) = d.nb (max 0 d.mx) 2 i := by
  rw [Det.nb, ← mx_eq H, ← H.lab, ← H.b2]
  simp only [masked, ← bits_bot]
  pointwise [k0_pay43, k0_pay39, k0_pay40, k0_pay38, k0_pay36, colB2]
include H in
theorem pay44_at (i : Fin 1000) : k0_pay44 L B3 k0_pay36 (k0_pay38 B0 B1) (colB2 B2) (ix2 (up i) 0) = d.nb (max 0 d.mx) 3 i := by
  rw [Det.nb, ← mx_eq H, ← H.lab, ← H.b3]
  simp only [masked, ← bits_bot]
  pointwise [k0_pay44, k0_pay39, k0_pay40, k0_pay38, k0_pay36, colB2]

include H in
open scoped Classical in
theorem kMask_at (i j : Fin 1000) : kMask L B0 B1 B2 B3 (k0_pay37 (F := Ideal) x) (ix2 (up i) (up j)) = if d.covers i j ∧ d.valid i then 1 else 0 := by
  unfold kMask
  have e45 : k0_pay45 L B0 B1 B2 B3 k0_pay36 (k0_pay38 B0 B1) (colB2 B2) (ix2 (up i) (up j)) = d.inter (max 0 d.mx) i j := by
    rw [Det.inter, ← pay41_at H, ← pay42_at H, ← pay43_at H, ← pay44_at H, ← pay41_at H, ← pay42_at H, ← pay43_at H, ← pay44_at H]
    pointwise [k0_pay45]
  have e46 : k0_pay46 L B0 B1 B2 B3 k0_pay36 (k0_pay38 B0 B1) (colB2 B2) (ix2 (up i) (up j)) = d.area (max 0 d.mx) i + d.area (max 0 d.mx) j := by
    rw [Det.area, Det.area, ← pay41_at H, ← pay42_at H, ← pay43_at H, ← pay44_at H, ← pay41_at H, ← pay42_at H, ← pay43_at H, ← pay44_at H]
    pointwise [k0_pay46]
  generalize hI : k0_pay45 L B0 B1 B2 B3 k0_pay36 (k0_pay38 B0 B1) (colB2 B2) = I at e45
  generalize hU : k0_pay46 L B0 B1 B2 B3 k0_pay36 (k0_pay38 B0 B1) (colB2 B2) = U at e46
  have e : k0_pay47 (k0_pay37 (F := Ideal) x) I U (ix2 (up i) (up j)) = Scalar.select (k0_pay37 (F := Ideal) x (ix2 (up i) 0))
      (Scalar.select
        (IntOp.andi
          (BitVec.ofBool
            (decide
              (Ideal.ofBits FTy.f32 1056964608#32 <
                Ideal.div (I (ix2 (up i) (up j))) (U (ix2 (up i) (up j)) - I (ix2 (up i) (up j)) + Ideal.ofBits FTy.f32 814313567#32))))
          (IntOp.cmpi CmpIPredicate.sgt (BitVec.ofNat 32 (up j).val) (BitVec.ofNat 32 (up i).val)))
        1 0)
      0 := by
    pointwise [k0_pay47]
  rw [e, e45, e46, pay37_at, sgt_ofNat (up j).isLt (up i).isLt, H.sc]
  rw [show Ideal.div (d.inter (max 0 d.mx) i j) (d.area (max 0 d.mx) i + d.area (max 0 d.mx) j - d.inter (max 0 d.mx) i j + Ideal.ofBits FTy.f32 814313567#32) =
    d.iou d.mx i j from H.overlap i j]
  have hi : (up i).val < 1000 := i.isLt
  simp only [Det.covers, Det.valid, hi, and_true, select_ofBool, up_val, Fin.lt_def]
  by_cases h1 : Ideal.ofBits .f32 1056964608#32 < d.iou d.mx i j <;> by_cases h2 : i.val < j.val <;>
    by_cases h3 : Ideal.ofBits .f32 1028443341#32 < d.sc i <;> simp [h1, h2, h3, IntOp.andi, Scalar.select]

theorem off1_eq : ∀ k : Fin k0_t1_loop.trips, k0_off1 k = ![2 * k.val, 0] := by decide +kernel
theorem off2_eq : ∀ k : Fin k0_t1_loop.trips, k0_off2 k = ![2 * k.val + 1, 0] := by decide +kernel
theorem row1_eq : ∀ k : Fin k0_t1_loop.trips, Scalar.muli (2#32) (Scf.iv 0#32 1#32 ↑k) = BitVec.ofNat 32 (2 * k.val) := by decide +kernel
theorem row2_eq : ∀ k : Fin k0_t1_loop.trips, Scalar.addi (Scalar.muli (2#32) (Scf.iv 0#32 1#32 ↑k)) 1#32 = BitVec.ofNat 32 (2 * k.val + 1) := by decide +kernel
theorem trips500 : k0_t1_loop.trips = 500 := by decide +kernel

/-- One suppression step on a row of masks. -/
def one (M : FVec Ideal S1024x1024 .f32) (i : Fin 1024) (ks : Fin 1024 → EReal) (j : Fin 1024) : EReal :=
  ks j * (1 - M (ix2 i j) * ks i)

theorem sum_row (ks : Fin 1024 → EReal) (i : Fin 1024) :
    (∑ y : Fin 1, ∑ x : Fin 1024, Scalar.select (IntOp.cmpi CmpIPredicate.eq (BitVec.ofNat 32 x.val) (BitVec.ofNat 32 i.val)) (ks x) 0) = ks i := by
  rw [Fin.sum_univ_one]
  have e : ∀ x : Fin 1024, IntOp.cmpi CmpIPredicate.eq (BitVec.ofNat 32 x.val) (BitVec.ofNat 32 i.val) = BitVec.ofBool (decide (x = i)) := fun x => by
    rw [eq_ofNat (by omega) (by omega)]; simp [Fin.ext_iff]
  simp only [e, select_ofBool, decide_eq_true_eq]
  rw [sum_pick _ i (fun x hx => if_neg hx), if_pos rfl]

theorem nmsStep_at (M : FVec Ideal S1024x1024 .f32) (k : Fin k0_t1_loop.trips) (acc : FVec Ideal S1x1024 .f32) (j : Fin 1024)
    (i₁ i₂ : Fin 1024) (h1 : i₁.val = 2 * k.val) (h2 : i₂.val = 2 * k.val + 1) :
    nmsStep M k acc (ix2 0 j) = one M i₂ (one M i₁ fun x => acc (ix2 0 x)) j := by
  simp only [one]
  have hs := sum_row (fun x => acc (ix2 0 x)) i₁
  have hs2 := sum_row (one M i₁ fun x => acc (ix2 0 x)) i₂
  rw [h1, ← row1_eq] at hs
  rw [h2, ← row2_eq] at hs2
  simp only [one] at hs2
  rw [← hs2]
  simp only [← hs]
  pointwise [nmsStep, k0_pay49]
  have r1 : ∀ (x : Fin 1024) (h : k0_off1 k 0 < 1024) (h' : k0_off1 k 1 + x.val < 1024),
      (ix2 (⟨k0_off1 k 0, h⟩ : Fin 1024) (⟨k0_off1 k 1 + x.val, h'⟩ : Fin 1024)) = ix2 i₁ x := fun x h h' => by
    congr 1
    · ext; simp [off1_eq, h1]
    · ext; simp [off1_eq]
  have r2 : ∀ (x : Fin 1024) (h : k0_off2 k 0 < 1024) (h' : k0_off2 k 1 + x.val < 1024),
      (ix2 (⟨k0_off2 k 0, h⟩ : Fin 1024) (⟨k0_off2 k 1 + x.val, h'⟩ : Fin 1024)) = ix2 i₂ x := fun x h h' => by
    congr 1
    · ext; simp [off2_eq, h2]
    · ext; simp [off2_eq]
  simp only [r1, r2]

theorem one_sub_one : (1 : EReal) - 1 = 0 := by
  rw [← EReal.coe_one, ← EReal.coe_sub, sub_self, EReal.coe_zero]
theorem one_bool (p q m : Prop) [Decidable p] [Decidable q] [Decidable m] [Decidable (p ∧ ¬ (m ∧ q))] : (if p then (1 : EReal) else 0) * (1 - (if m then 1 else 0) * (if q then 1 else 0)) =
    if p ∧ ¬ (m ∧ q) then 1 else 0 := by
  by_cases p <;> by_cases q <;> by_cases m <;> simp [*, one_sub_one]

include H in
open scoped Classical in
/-- One step on masks that are the kept candidates after `k` steps. -/
theorem one_keep (k : ℕ) (hk : k < 1000) (ks : Fin 1024 → EReal) (h : ∀ j, ks (up j) = if d.keep k j then 1 else 0) (j : Fin 1000) :
    one (kMask L B0 B1 B2 B3 (k0_pay37 (F := Ideal) x)) (up ⟨k, hk⟩) ks (up j) = if d.keep (k + 1) j then 1 else 0 := by
  rw [one, kMask_at H, h, h, one_bool]
  refine if_congr ?_ rfl rfl
  rw [d.keep_succ k hk]
  tauto

include H in
open scoped Classical in
theorem nmsState_at (n : ℕ) (hn : n ≤ 500) (j : Fin 1000) :
    nmsState (kMask L B0 B1 B2 B3 (k0_pay37 (F := Ideal) x)) n (ix2 0 (up j)) = if d.keep (2 * n) j then 1 else 0 := by
  induction n generalizing j with
  | zero =>
    simp only [nmsState, Nat.mul_zero, Det.keep, if_true]
    pointwise [k0_pay48]
  | succ n ih =>
    have h' : n < k0_t1_loop.trips := by rw [trips500]; omega
    rw [nmsState, dif_pos h', nmsStep_at _ ⟨n, h'⟩ _ _ (up ⟨2 * n, by omega⟩) (up ⟨2 * n + 1, by omega⟩) rfl rfl]
    exact one_keep H (2 * n + 1) (by omega) _ (fun j => one_keep H (2 * n) (by omega) _ (fun j => ih (by omega) j) j) j

/-- The scores after suppression, over all 1024 rows. -/
def fin1024 (d : Det) (j : Fin 1024) : EReal := if h : j.val < 1000 then d.final ⟨j.val, h⟩ else ⊥

include H in
theorem kFinal_at (j : Fin 1024) :
    kFinal (k0_pay35 x) (k0_pay37 (F := Ideal) x) (kMask L B0 B1 B2 B3 (k0_pay37 (F := Ideal) x)) (ix2 0 j) = fin1024 d j := by
  classical
  unfold kFinal
  have e : ∀ (m : FVec Ideal S1x1024 .f32), k0_pay50 (k0_pay35 x) (k0_pay37 (F := Ideal) x) m (ix2 0 j) =
      if 0 < Scalar.select (k0_pay37 (F := Ideal) x (ix2 j 0)) (m (ix2 0 j)) 0 then k0_pay35 x (ix2 j 0) else Ideal.ofBits FTy.f32 4286578688#32 := fun m => by
    pointwise [k0_pay50]
  rw [e, pay37_at, pay35_at, select_ofBool, bits_bot]
  unfold fin1024
  by_cases hj : j.val < 1000
  · have hu : j = up ⟨j.val, hj⟩ := rfl
    rw [dif_pos hj, Det.final]
    generalize (⟨j.val, hj⟩ : Fin 1000) = i at hu
    subst hu
    rw [trips500, nmsState_at H 500 le_rfl, H.sc]
    simp only [hj, and_true, Det.valid]
    by_cases h1 : d.keep 1000 i <;> by_cases h2 : Ideal.ofBits .f32 1028443341#32 < d.sc i <;> simp [h1, h2]
  · simp [hj]

end Cert.KernelIdeal.Hand
-- ==== Proof.KernelSelect.lean ====
module

public import proofs.«01_k».proof.Proof.KernelNms

@[expose] public section

set_option maxRecDepth 16384

noncomputable section

/-! The kernel's selection loop, read at an index. -/

namespace Cert.KernelIdeal.Hand

open Cert.KernelIdeal Cert.KernelIdeal.Gen
open Idealize.ShloMosaic Idealize.ShloMosaic.TcCoe Idealize.ShloMosaic.Tactic
open Cert.Detect

/-- The row of positions. -/
abbrev places : IVec S1x1024 32 := iota Kind.tc S1x1024 32 [1] iota_S1x1024_d1_w32
/-- The row of columns. -/
abbrev columns : IVec S1x128 32 := iota Kind.tc S1x128 32 [1] iota_S1x128_d1_w32

theorem bits_2048 : Ideal.ofBits .f32 1157627904#32 = ((2048 : ℝ) : EReal) := by
  simp [Ideal.ofBits, Ideal.ieee, -EReal.coe_mul]; norm_num
theorem bits_neg_one : Ideal.ofBits .f32 3212836864#32 = (-1 : EReal) := by
  simp [Ideal.ofBits, Ideal.ieee, -EReal.coe_mul]; norm_num

theorem toInt_ofNat {n : ℕ} (h : n < 4096) : (BitVec.ofNat 32 n).toInt = (n : ℤ) := by
  rw [BitVec.toInt_eq_toNat_cond, BitVec.toNat_ofNat]
  have : n % 2 ^ 32 = n := Nat.mod_eq_of_lt (by omega)
  rw [this, if_pos (by omega)]
theorem place_at (n : Fin 1024) : (FloatOps.sitofp (F := Ideal) .f32 (BitVec.ofNat 32 n.val) : EReal) = ((n.val : ℝ) : EReal) := by
  change (((BitVec.ofNat 32 n.val).toInt : ℝ) : EReal) = _
  rw [toInt_ofNat (by omega)]; norm_cast

section step

variable (fs : FVec Ideal S1x1024 .f32) (j0 : Fin 1024) (hmax : ∀ j, fs (ix2 0 j) ≤ fs (ix2 0 j0))
  (hleast : ∀ j, fs (ix2 0 j) = fs (ix2 0 j0) → j0 ≤ j)

include hmax in
theorem pay5_at : k0_pay5 (F := Ideal) fs = fs (ix2 0 j0) := by
  rw [← fold_max_row (fun j => fs (ix2 0 j)) j0 hmax, ← bits_bot]
  pointwise [k0_pay5]

theorem pay2_at (j : Fin 1024) : k0_pay2 (F := Ideal) places (ix2 0 j) = ((j.val : ℝ) : EReal) := by
  rw [← place_at]
  pointwise [k0_pay2, places]

include hmax hleast in
theorem pay6_at : k0_pay6 (F := Ideal) (k0_pay2 places) fs = ((j0.val : ℝ) : EReal) := by
  classical
  have e : k0_pay6 (F := Ideal) (k0_pay2 places) fs = Finset.fold min (Ideal.ofBits .f32 2139095040#32)
      (fun x : Fin 1 × Fin 1024 => if fs (ix2 0 x.2) = k0_pay5 fs then k0_pay2 (F := Ideal) places (ix2 0 x.2) else Ideal.ofBits .f32 1157627904#32) Finset.univ := by
    generalize k0_pay2 (F := Ideal) places = v
    pointwise [k0_pay6]
  rw [e, pay5_at fs j0 hmax, bits_top, bits_2048]
  have h := fold_min_row (fun j => fs (ix2 0 j)) (fun j => k0_pay2 (F := Ideal) places (ix2 0 j)) j0 ((2048 : ℝ) : EReal)
    (by rw [pay2_at]; have := j0.isLt; exact_mod_cast (by omega : j0.val ≤ 2048))
    (fun j hj => by rw [pay2_at, pay2_at]; exact_mod_cast hleast j hj)
  rw [← pay2_at, ← h]

include hmax hleast in
theorem pay4_at (i : Fin 1024) : k0_pay4 (F := Ideal) places fs (k0_pay6 (k0_pay2 places) fs) (ix2 0 i) =
    if i = j0 then ⊥ else fs (ix2 0 i) := by
  have e : ∀ a, k0_pay4 (F := Ideal) places fs a (ix2 0 i) = if FloatOps.sitofp (F := Ideal) .f32 (places (ix2 0 i)) = a then Ideal.ofBits .f32 4286578688#32 else fs (ix2 0 i) := fun a => by
    generalize places = v
    pointwise [k0_pay4, k0_pay2]
  rw [e, pay6_at fs j0 hmax hleast, bits_bot, show places (ix2 0 i) = BitVec.ofNat 32 i.val by pointwise [places], place_at]
  refine if_congr ?_ rfl rfl
  rw [EReal.coe_eq_coe_iff, Nat.cast_inj, Fin.ext_iff]

include hmax hleast in
theorem onehot_sum (f : Fin 1024 → EReal) :
    (∑ y : Fin 1024, f y * if k0_pay2 (F := Ideal) places (ix2 0 y) = k0_pay6 (F := Ideal) (k0_pay2 places) fs then 1 else 0) = f j0 := by
  rw [pay6_at fs j0 hmax hleast]
  simp only [pay2_at, EReal.coe_eq_coe_iff, Nat.cast_inj, ← Fin.ext_iff]
  rw [sum_pick _ j0 (fun i hi => by rw [if_neg hi, mul_zero]), if_pos rfl, mul_one]

variable (M : FVec Ideal S8x1024 .f32) (t : Fin k0_t2_loop.trips) (acc : FVec Ideal S8x128 .f32)

/-- The greatest score that is left is a real score. -/
abbrev okf : EReal := if ⊥ < fs (ix2 0 j0) then 1 else 0

include hmax hleast in
theorem pay7_row0 (n : Fin 128) : k0_pay7 M (k0_pay2 places) columns 0#32 1#32 t fs acc (ix2 0 n) =
    acc (ix2 0 n) + Scalar.select (IntOp.cmpi .eq (BitVec.ofNat 32 n.val) (Scf.iv 0#32 1#32 t.val)) (M (ix2 0 j0) * if ⊥ < fs (ix2 0 j0) then 1 else 0) 0 := by
  rw [← onehot_sum fs j0 hmax hleast (fun y => M (ix2 0 y)), ← pay5_at fs j0 hmax, ← bits_bot]
  generalize k0_pay2 (F := Ideal) places = v
  pointwise [k0_pay7, columns]

include hmax hleast in
theorem pay7_row1 (n : Fin 128) : k0_pay7 M (k0_pay2 places) columns 0#32 1#32 t fs acc (ix2 1 n) =
    acc (ix2 1 n) + Scalar.select (IntOp.cmpi .eq (BitVec.ofNat 32 n.val) (Scf.iv 0#32 1#32 t.val)) (M (ix2 1 j0) * if ⊥ < fs (ix2 0 j0) then 1 else 0) 0 := by
  rw [← onehot_sum fs j0 hmax hleast (fun y => M (ix2 1 y)), ← pay5_at fs j0 hmax, ← bits_bot]
  generalize k0_pay2 (F := Ideal) places = v
  pointwise [k0_pay7, columns]

include hmax hleast in
theorem pay7_row2 (n : Fin 128) : k0_pay7 M (k0_pay2 places) columns 0#32 1#32 t fs acc (ix2 2 n) =
    acc (ix2 2 n) + Scalar.select (IntOp.cmpi .eq (BitVec.ofNat 32 n.val) (Scf.iv 0#32 1#32 t.val)) (M (ix2 2 j0) * if ⊥ < fs (ix2 0 j0) then 1 else 0) 0 := by
  rw [← onehot_sum fs j0 hmax hleast (fun y => M (ix2 2 y)), ← pay5_at fs j0 hmax, ← bits_bot]
  generalize k0_pay2 (F := Ideal) places = v
  pointwise [k0_pay7, columns]

include hmax hleast in
theorem pay7_row3 (n : Fin 128) : k0_pay7 M (k0_pay2 places) columns 0#32 1#32 t fs acc (ix2 3 n) =
    acc (ix2 3 n) + Scalar.select (IntOp.cmpi .eq (BitVec.ofNat 32 n.val) (Scf.iv 0#32 1#32 t.val)) (M (ix2 3 j0) * if ⊥ < fs (ix2 0 j0) then 1 else 0) 0 := by
  rw [← onehot_sum fs j0 hmax hleast (fun y => M (ix2 3 y)), ← pay5_at fs j0 hmax, ← bits_bot]
  generalize k0_pay2 (F := Ideal) places = v
  pointwise [k0_pay7, columns]

include hmax hleast in
theorem pay7_row (c : Fin 4) (n : Fin 128) : k0_pay7 M (k0_pay2 places) columns 0#32 1#32 t fs acc (ix2 (⟨c.val, by omega⟩ : Fin 8) n) =
    acc (ix2 (⟨c.val, by omega⟩ : Fin 8) n) + Scalar.select (IntOp.cmpi .eq (BitVec.ofNat 32 n.val) (Scf.iv 0#32 1#32 t.val)) (M (ix2 (⟨c.val, by omega⟩ : Fin 8) j0) * if ⊥ < fs (ix2 0 j0) then 1 else 0) 0 := by
  fin_cases c
  · exact pay7_row0 fs j0 hmax hleast M t acc n
  · exact pay7_row1 fs j0 hmax hleast M t acc n
  · exact pay7_row2 fs j0 hmax hleast M t acc n
  · exact pay7_row3 fs j0 hmax hleast M t acc n

include hmax hleast in
theorem pay7_row4 (n : Fin 128) : k0_pay7 M (k0_pay2 places) columns 0#32 1#32 t fs acc (ix2 4 n) =
    acc (ix2 4 n) + Scalar.select (IntOp.cmpi .eq (BitVec.ofNat 32 n.val) (Scf.iv 0#32 1#32 t.val)) (if ⊥ < fs (ix2 0 j0) then fs (ix2 0 j0) else 0) 0 := by
  rw [← pay5_at fs j0 hmax, ← bits_bot]
  generalize k0_pay2 (F := Ideal) places = v
  pointwise [k0_pay7, columns]

include hmax hleast in
theorem pay7_row5 (n : Fin 128) : k0_pay7 M (k0_pay2 places) columns 0#32 1#32 t fs acc (ix2 5 n) =
    acc (ix2 5 n) + Scalar.select (IntOp.cmpi .eq (BitVec.ofNat 32 n.val) (Scf.iv 0#32 1#32 t.val)) (if ⊥ < fs (ix2 0 j0) then M (ix2 4 j0) else -1) 0 := by
  rw [← onehot_sum fs j0 hmax hleast (fun y => M (ix2 4 y)), ← pay5_at fs j0 hmax, ← bits_bot, ← bits_neg_one]
  generalize k0_pay2 (F := Ideal) places = v
  pointwise [k0_pay7, columns]
  congr 2
  split
  · pointwise
  · pointwise

end step

section picks
variable (f : Fin 1000 → EReal) (p : Fin 1000 → Fin 1000)

open scoped Classical in
/-- The scores that are left before selection `k`. -/
def left (k : ℕ) (j : Fin 1024) : EReal :=
  if h : j.val < 1000 then (if ∃ r : Fin 1000, r.val < k ∧ p r = ⟨j.val, h⟩ then ⊥ else f ⟨j.val, h⟩) else ⊥

open scoped Classical in
theorem left_up (k : ℕ) (i : Fin 1000) : left f p k (up i) = if ∃ r : Fin 1000, r.val < k ∧ p r = i then ⊥ else f i := by
  unfold left
  exact dif_pos i.isLt

theorem left_out (k : ℕ) (j : Fin 1024) (h : ¬ j.val < 1000) : left f p k j = ⊥ := dif_neg h

theorem up_or (j : Fin 1024) : (∃ i, j = up i) ∨ ¬ j.val < 1000 := by
  by_cases h : j.val < 1000
  · exact .inl ⟨⟨j.val, h⟩, rfl⟩
  · exact .inr h

variable (hinj : Function.Injective p)
  (hspec : ∀ i q, (∀ j, j ≤ i → p j ≠ q) → f q < f (p i) ∨ (f q = f (p i) ∧ p i < q))

include hinj in
theorem left_pick (k : Fin 1000) : left f p k.val (up (p k)) = f (p k) := by
  rw [left_up, if_neg]
  rintro ⟨r, hr, e⟩
  have := hinj e
  subst this
  exact lt_irrefl _ hr

include hspec in
theorem left_cases (k : Fin 1000) (j : Fin 1024) : left f p k.val j = ⊥ ∨ j = up (p k) ∨
    left f p k.val j < f (p k) ∨ (left f p k.val j = f (p k) ∧ up (p k) < j) := by
  rcases up_or j with ⟨i, rfl⟩ | h
  · rw [left_up]
    by_cases hp : ∃ r : Fin 1000, r.val < k.val ∧ p r = i
    · left; rw [if_pos hp]
    · rw [if_neg hp]
      by_cases hk : p k = i
      · right; left; rw [hk]
      · right; right
        refine (hspec k i fun r hr e => ?_).imp id fun ⟨a, b⟩ => ⟨a, b⟩
        rcases lt_or_eq_of_le hr with h1 | h1
        · exact hp ⟨r, h1, e⟩
        · subst h1; exact hk e
  · left; exact left_out f p _ j h

theorem left_succ (k : Fin 1000) (j : Fin 1024) : left f p (k.val + 1) j = if j = up (p k) then ⊥ else left f p k.val j := by
  classical
  rcases up_or j with ⟨i, rfl⟩ | h
  · rw [left_up, left_up]
    by_cases hk : p k = i
    · rw [if_pos ⟨k, by omega, hk⟩, if_pos (by rw [hk])]
    · have hne : ¬ up i = up (p k) := fun e => hk (up_inj.1 e).symm
      rw [if_neg hne]
      have : (∃ r : Fin 1000, r.val < k.val + 1 ∧ p r = i) ↔ ∃ r : Fin 1000, r.val < k.val ∧ p r = i := by
        constructor
        · rintro ⟨r, hr, e⟩
          refine ⟨r, lt_of_le_of_ne (by omega) (fun hh => hk ?_), e⟩
          rw [← e]; congr 1; exact (Fin.ext hh).symm
        · rintro ⟨r, hr, e⟩
          exact ⟨r, by omega, e⟩
      simp only [this]
  · rw [left_out f p _ j h, left_out f p _ j h]; simp

include hinj hspec in
/-- The place the kernel takes in selection `k`: the pick, or the first row when no score is left. -/
theorem exists_place (k : Fin 1000) : ∃ j0 : Fin 1024, left f p k.val j0 = f (p k) ∧ (∀ j, left f p k.val j ≤ left f p k.val j0) ∧
    (∀ j, left f p k.val j = left f p k.val j0 → j0 ≤ j) ∧ (f (p k) ≠ ⊥ → j0 = up (p k)) ∧
    (∀ j, (if j = j0 then ⊥ else left f p k.val j) = left f p (k.val + 1) j) := by
  by_cases hb : f (p k) = ⊥
  · have hall : ∀ j, left f p k.val j = ⊥ := fun j => by
      rcases left_cases f p hspec k j with h | h | h | h
      · exact h
      · rw [h, left_pick f p hinj, hb]
      · rw [hb] at h; exact absurd h not_lt_bot
      · rw [h.1, hb]
    refine ⟨0, by rw [hall, hb], fun j => by rw [hall]; exact bot_le, fun j _ => Fin.zero_le j, fun h => absurd hb h, fun j => ?_⟩
    rw [left_succ, hall]; simp
  · refine ⟨up (p k), left_pick f p hinj k, fun j => ?_, fun j e => ?_, fun _ => rfl, fun j => (left_succ f p k j).symm⟩
    · rw [left_pick f p hinj]
      rcases left_cases f p hspec k j with h | h | h | h
      · rw [h]; exact bot_le
      · rw [h, left_pick f p hinj]
      · exact h.le
      · exact h.1.le
    · rw [left_pick f p hinj] at e
      rcases left_cases f p hspec k j with h | h | h | h
      · exact absurd (e.symm.trans h) hb
      · rw [h]
      · exact absurd e h.ne
      · exact h.2.le
end picks

variable {d : Det} {x L B0 B1 B2 B3 : FVec Ideal S1024x1 .f32} (H : Holds d x L B0 B1 B2 B3)

/-- The rows the selection reads: the boxes' edges and the class. -/
abbrev rows (L B0 B1 B2 B3 : FVec Ideal S1024x1 .f32) : FVec Ideal S8x1024 .f32 :=
  k0_pay1 (k0_pay51 B0) (k0_pay52 B1) (k0_pay53 B2) (k0_pay54 B3) (k0_pay55 L) k0_pay56

theorem rows0 (j : Fin 1024) : rows L B0 B1 B2 B3 (ix2 0 j) = B0 (ix2 j 0) := by
  pointwise [rows, k0_pay1, k0_pay51, k0_pay52, k0_pay53, k0_pay54, k0_pay55, k0_pay56]
theorem rows1 (j : Fin 1024) : rows L B0 B1 B2 B3 (ix2 1 j) = B1 (ix2 j 0) := by
  pointwise [rows, k0_pay1, k0_pay51, k0_pay52, k0_pay53, k0_pay54, k0_pay55, k0_pay56]
theorem rows2 (j : Fin 1024) : rows L B0 B1 B2 B3 (ix2 2 j) = B2 (ix2 j 0) := by
  pointwise [rows, k0_pay1, k0_pay51, k0_pay52, k0_pay53, k0_pay54, k0_pay55, k0_pay56]
theorem rows3 (j : Fin 1024) : rows L B0 B1 B2 B3 (ix2 3 j) = B3 (ix2 j 0) := by
  pointwise [rows, k0_pay1, k0_pay51, k0_pay52, k0_pay53, k0_pay54, k0_pay55, k0_pay56]
theorem rows4 (j : Fin 1024) : rows L B0 B1 B2 B3 (ix2 4 j) = L (ix2 j 0) := by
  pointwise [rows, k0_pay1, k0_pay51, k0_pay52, k0_pay53, k0_pay54, k0_pay55, k0_pay56]

include H in
theorem rows_box (c : Fin 4) (i : Fin 1000) : rows L B0 B1 B2 B3 (ix2 (⟨c.val, by omega⟩ : Fin 8) (up i)) = d.box c i := by
  fin_cases c
  · exact (rows0 _).trans (H.b0 i)
  · exact (rows1 _).trans (H.b1 i)
  · exact (rows2 _).trans (H.b2 i)
  · exact (rows3 _).trans (H.b3 i)

theorem left_zero (d : Det) (j : Fin 1024) : left d.final d.pick 0 j = fin1024 d j := by
  classical
  unfold left fin1024
  split
  · exact if_neg (by rintro ⟨r, hr, _⟩; exact absurd hr (Nat.not_lt_zero _))
  · rfl

theorem trips100 : k0_t2_loop.trips = 100 := by decide +kernel
theorem t_lt (t : Fin k0_t2_loop.trips) : t.val < 100 := lt_of_lt_of_eq t.isLt trips100
theorem iv_eq : ∀ t : Fin k0_t2_loop.trips, Scf.iv 0#32 1#32 t.val = BitVec.ofNat 32 t.val := by decide +kernel

include H in
theorem selStep_acc (t : Fin k0_t2_loop.trips) (fs : FVec Ideal S1x1024 .f32) (hfs : ∀ j, fs (ix2 0 j) = left d.final d.pick t.val j) (acc : FVec Ideal S8x128 .f32)
    (c : Fin 6) (n : Fin 128) :
    k0_pay7 (rows L B0 B1 B2 B3) (k0_pay2 places) columns 0#32 1#32 t fs acc (ix2 (⟨c.val, by omega⟩ : Fin 8) n) =
      acc (ix2 (⟨c.val, by omega⟩ : Fin 8) n) + if n.val = t.val then d.out ⟨t.val, t_lt t⟩ c else 0 := by
  have ht : t.val < 100 := t_lt t
  obtain ⟨j0, h1, h2, h3, h4, h5⟩ := exists_place d.final d.pick (order_injective _) (order_spec _) ⟨t.val, by omega⟩
  simp only [← hfs] at h1 h2 h3
  have he : IntOp.cmpi .eq (BitVec.ofNat 32 n.val) (Scf.iv 0#32 1#32 t.val) = BitVec.ofBool (decide (n.val = t.val)) := by
    rw [iv_eq, eq_ofNat (by omega) (by omega)]
  have ho : ∀ v : EReal, v = d.out ⟨t.val, t_lt t⟩ c →
      Scalar.select (IntOp.cmpi .eq (BitVec.ofNat 32 n.val) (Scf.iv 0#32 1#32 t.val)) v 0 = if n.val = t.val then d.out ⟨t.val, t_lt t⟩ c else 0 := by
    rintro v rfl
    rw [he, select_ofBool]; simp
  have hp : ∀ h, d.pick ((⟨t.val, h⟩ : Fin 100).castLE (by decide)) = d.pick ⟨t.val, by omega⟩ := fun _ => rfl
  by_cases hc : c.val < 4
  · refine (pay7_row fs j0 h2 h3 _ t acc ⟨c.val, hc⟩ n).trans ?_
    congr 1
    apply ho
    rw [Det.out, hp, h1]
    by_cases hb : d.final (d.pick ⟨t.val, by omega⟩) = ⊥
    · simp [hb, show c.val < 5 by omega]
    · rw [if_neg hb, dif_pos hc, if_pos (bot_lt_iff_ne_bot.2 hb), mul_one, h4 hb]
      exact rows_box H ⟨c.val, hc⟩ _
  · by_cases hc4 : c = 4
    · subst hc4
      refine (pay7_row4 fs j0 h2 h3 _ t acc n).trans ?_
      congr 1
      apply ho
      rw [Det.out, hp, h1]
      by_cases hb : d.final (d.pick ⟨t.val, by omega⟩) = ⊥
      · simp [hb]
      · simp [hb, bot_lt_iff_ne_bot]
    · have hc5 : c = 5 := by ext; have := c.isLt; have : c.val ≠ 4 := fun h => hc4 (Fin.ext h); change c.val = 5; omega
      subst hc5
      refine (pay7_row5 fs j0 h2 h3 _ t acc n).trans ?_
      congr 1
      apply ho
      rw [Det.out, hp, h1]
      by_cases hb : d.final (d.pick ⟨t.val, by omega⟩) = ⊥
      · simp [hb]
      · rw [if_pos (bot_lt_iff_ne_bot.2 hb), h4 hb, rows4, H.lab]
        simp [hb]

include H in
/-- The selection's result: the detections in the first hundred columns. -/
theorem kSelect_at (fs : FVec Ideal S1x1024 .f32) (hfs : ∀ j, fs (ix2 0 j) = fin1024 d j) (c : Fin 6) (n : Fin 100) :
    kSelect L B0 B1 B2 B3 fs (ix2 (⟨c.val, by omega⟩ : Fin 8) (⟨n.val, by omega⟩ : Fin 128)) = d.out n c := by
  unfold kSelect
  rw [Scf.fold_eq]
  have key := foldl_finRange k0_t2_loop.trips (selStep places (k0_pay51 B0) (k0_pay52 B1) (k0_pay53 B2) (k0_pay54 B3) (k0_pay55 L) k0_pay56 columns)
    (fun k s => (∀ j, s.1 (ix2 0 j) = left d.final d.pick k j) ∧ ∀ (c : Fin 6) (n : Fin 128), s.2 (ix2 (⟨c.val, by omega⟩ : Fin 8) n) =
      if h : n.val < k ∧ n.val < 100 then d.out ⟨n.val, h.2⟩ c else 0) (fs, k0_pay3)
    ⟨fun j => (hfs j).trans (left_zero d j).symm, fun c n => by
      rw [dif_neg (by omega)]
      pointwise [k0_pay3]⟩ ?_
  · refine (key.2 c ⟨n.val, by omega⟩).trans ?_
    rw [dif_pos ⟨by rw [trips100]; exact n.isLt, n.isLt⟩]
  · rintro k ⟨fs, acc⟩ ⟨i1, i2⟩
    have ht : k.val < 100 := t_lt k
    dsimp only at i1 i2
    refine ⟨fun j => ?_, fun c n => ?_⟩
    · obtain ⟨j0, h1, h2, h3, h4, h5⟩ := exists_place d.final d.pick (order_injective _) (order_spec _) ⟨k.val, by omega⟩
      simp only [← i1] at h2 h3
      rw [← h5]
      simp only [← i1]
      refine Eq.trans ?_ (pay4_at fs j0 h2 h3 j)
      rw [selStep]
    · refine Eq.trans ?_ ((selStep_acc H k fs i1 acc c n).trans ?_)
      · rw [selStep]
      rw [i2]
      by_cases hn : n.val = k.val
      · rw [dif_neg (by omega), if_pos hn, dif_pos ⟨by omega, by omega⟩, zero_add]
        congr 1
        exact Fin.ext hn.symm
      · rw [if_neg hn, add_zero]
        by_cases hl : n.val < k.val
        · rw [dif_pos ⟨hl, by omega⟩, dif_pos ⟨by omega, by omega⟩]
        · rw [dif_neg (by omega), dif_neg (by omega)]

end Cert.KernelIdeal.Hand
-- ==== Proof.KernelBoxes.lean ====
module

public import proofs.«01_k».proof.Proof.KernelSelect
public import Idealize.ShloMosaic.Lib.Routing.Words

@[expose] public section

set_option maxRecDepth 16384

noncomputable section

/-! The candidates' rows, anchors, classes and boxes in the kernel, read at an index. -/

namespace Cert.KernelIdeal.Hand

open Cert.KernelIdeal Cert.KernelIdeal.Gen
open Idealize.ShloMosaic Idealize.ShloMosaic.TcCoe Idealize.ShloMosaic.Tactic
open Cert.Detect

theorem slt_zero {n : ℕ} (h : n < 2 ^ 31) : IntOp.cmpi .slt (BitVec.ofNat 32 n) 0#32 = 0#1 := by
  rw [show IntOp.cmpi .slt (BitVec.ofNat 32 n) 0#32 = BitVec.ofBool (decide (n < 0)) by word_cmp]; simp
theorem sgt_zero {n : ℕ} (h : n < 2 ^ 31) : IntOp.cmpi .sgt (BitVec.ofNat 32 n) 0#32 = BitVec.ofBool (decide (0 < n)) := by
  word_cmp
theorem ne_zero {n : ℕ} (h : n < 2 ^ 31) : IntOp.cmpi .ne (BitVec.ofNat 32 n) 0#32 = BitVec.ofBool (decide (n ≠ 0)) := by
  word_cmp

/-- Floor division as printed, over words that are not negative. -/
theorem floor_word (u : ArithUnit) {q b : ℕ} (hq : q < 2 ^ 31) (h0 : 0 < b) (hb : b < 2 ^ 31) :
    Scalar.select
      (IntOp.andi
        (IntOp.cmpi CmpIPredicate.ne
          (IntOp.subi (BitVec.setWidth 32 (IntOp.cmpi CmpIPredicate.sgt (BitVec.ofNat 32 q) 0#32))
            (BitVec.setWidth 32 (IntOp.cmpi CmpIPredicate.slt (BitVec.ofNat 32 q) 0#32))) 1#32)
        (IntOp.cmpi CmpIPredicate.ne (IntOp.remsi u (BitVec.ofNat 32 q) (BitVec.ofNat 32 b)) 0#32))
      (IntOp.subi (IntOp.divsi u (BitVec.ofNat 32 q) (BitVec.ofNat 32 b)) 1#32)
      (IntOp.divsi u (BitVec.ofNat 32 q) (BitVec.ofNat 32 b)) = BitVec.ofNat 32 (q / b) := by
  rw [Routing.remsi_word u hq h0 hb, Routing.divsi_word u hq h0 hb, slt_zero hq, sgt_zero hq, ne_zero (lt_of_le_of_lt (Nat.mod_le _ _) hq)]
  by_cases h : 0 < q
  · simp [h, IntOp.andi, IntOp.subi, IntOp.cmpi, Scalar.select]
  · have : q = 0 := by omega
    subst this
    simp [IntOp.andi, Scalar.select]

/-- The remainder as printed, over words that are not negative. -/
theorem rem_word (u : ArithUnit) {q b : ℕ} (hq : q < 2 ^ 31) (h0 : 0 < b) (hb : b < 2 ^ 31) :
    Scalar.select
      (IntOp.andi
        (IntOp.xori (IntOp.cmpi CmpIPredicate.slt (IntOp.remsi u (BitVec.ofNat 32 q) (BitVec.ofNat 32 b)) 0#32) 0#1)
        (IntOp.cmpi CmpIPredicate.ne (IntOp.remsi u (BitVec.ofNat 32 q) (BitVec.ofNat 32 b)) 0#32))
      (IntOp.addi (IntOp.remsi u (BitVec.ofNat 32 q) (BitVec.ofNat 32 b)) (BitVec.ofNat 32 b))
      (IntOp.remsi u (BitVec.ofNat 32 q) (BitVec.ofNat 32 b)) = BitVec.ofNat 32 (q % b) := by
  rw [Routing.remsi_word u hq h0 hb, slt_zero (lt_of_le_of_lt (Nat.mod_le _ _) hq)]
  simp [IntOp.andi, IntOp.xori, Scalar.select]

theorem kRow_at (x : Vec Ideal S1024x1 .i32) (i : Fin 1024) (q : ℕ) (h : x (ix2 i 0) = BitVec.ofNat 32 q) (hq : q < 2949120) :
    kRow (F := Ideal) x (ix2 i 0) = BitVec.ofNat 32 (q / 720) := by
  rw [← floor_word .vector (by omega) (by decide) (by decide), ← h]
  pointwise [kRow, k0_pay18, k0_pay19, k0_pay20, k0_pay21]
  rfl
theorem rem_at (x : Vec Ideal S1024x1 .i32) (i : Fin 1024) (q : ℕ) (h : x (ix2 i 0) = BitVec.ofNat 32 q) (hq : q < 2949120) :
    k0_pay22 (k0_pay18 (F := Ideal) x) (ix2 i 0) = BitVec.ofNat 32 (q % 720) := by
  rw [← rem_word .vector (by omega) (by decide) (by decide), ← h]
  pointwise [k0_pay18, k0_pay22]
  rfl
theorem kAnc_at (x : Vec Ideal S1024x1 .i32) (i : Fin 1024) (q : ℕ) (h : x (ix2 i 0) = BitVec.ofNat 32 q) (hq : q < 2949120) :
    kAnc (F := Ideal) x (ix2 i 0) = BitVec.ofNat 32 (q % 720 / 80) := by
  rw [← floor_word .vector (by omega) (by decide) (by decide), ← rem_at x i q h hq]
  pointwise [kAnc, k0_pay23, k0_pay24, k0_pay25, k0_pay26]
  rfl
theorem kLab_at (x : Vec Ideal S1024x1 .i32) (i : Fin 1024) (q : ℕ) (h : x (ix2 i 0) = BitVec.ofNat 32 q) (hq : q < 2949120) :
    kLab (F := Ideal) x (ix2 i 0) = (((q % 80 : ℕ) : ℝ) : EReal) := by
  have e : kLab (F := Ideal) x (ix2 i 0) = FloatOps.sitofp .f32 (BitVec.ofNat 32 (q % 720 % 80)) := by
    rw [← rem_word .vector (by omega) (by decide) (by decide), ← rem_at x i q h hq]
    pointwise [kLab, k0_pay27]
    rfl
  rw [e]
  change (((BitVec.ofNat 32 (q % 720 % 80)).toInt : ℝ) : EReal) = _
  rw [toInt_ofNat (by omega), show q % 720 % 80 = q % 80 by omega]
  norm_cast
theorem flag_at (p : Bool) : (FloatOps.sitofp (F := Ideal) .f32 (BitVec.setWidth 32 (BitVec.ofBool p)) : EReal) = if p then 1 else 0 := by
  change (((BitVec.setWidth 32 (BitVec.ofBool p)).toInt : ℝ) : EReal) = _
  cases p <;> simp

/-- One chunk of the gather by a product with a one-hot row. -/
theorem chunk (f : Fin 4096 → EReal) (r : Fin 4096) (o : ℕ) (ho : o + 1024 ≤ 4096) (g : Fin 1024 → EReal)
    (hg : ∀ x, g x = f ⟨o + x.val, by omega⟩) :
    (∑ x : Fin 1024, FloatOps.sitofp (F := Ideal) .f32 (BitVec.setWidth 32
      (IntOp.cmpi .eq (BitVec.ofNat 32 r.val) (IntOp.addi (BitVec.ofNat 32 x.val) (BitVec.ofNat 32 o)))) * g x : EReal) =
      if o ≤ r.val ∧ r.val < o + 1024 then f r else 0 := by
  have e : ∀ x : Fin 1024, (FloatOps.sitofp (F := Ideal) .f32 (BitVec.setWidth 32
      (IntOp.cmpi .eq (BitVec.ofNat 32 r.val) (IntOp.addi (BitVec.ofNat 32 x.val) (BitVec.ofNat 32 o)))) * g x : EReal) =
      if r.val = o + x.val then f r else 0 := fun x => by
    rw [show IntOp.addi (BitVec.ofNat 32 x.val) (BitVec.ofNat 32 o) = BitVec.ofNat 32 (o + x.val) by
        rw [IntOp.addi, ← BitVec.ofNat_add, Nat.add_comm], eq_ofNat r.isLt (by omega), flag_at, hg]
    by_cases h : r.val = o + x.val
    · have : (⟨o + x.val, by omega⟩ : Fin 4096) = r := Fin.ext h.symm
      rw [this]; simp [h]
    · simp [h]
  simp only [e]
  by_cases h : o ≤ r.val ∧ r.val < o + 1024
  · rw [if_pos h, sum_pick _ ⟨r.val - o, by omega⟩ (fun i hi => if_neg fun h' => hi (Fin.ext (by simp; omega))), if_pos (by simp; omega)]
  · rw [if_neg h]
    exact Finset.sum_eq_zero fun x _ => if_neg (by omega)

variable (D : FVec Ideal S4096x36 .f32) (R A : IVec S1024x1 32) (i : Fin 1024) (r : Fin 4096) (hR : R (ix2 i 0) = BitVec.ofNat 32 r.val)

include hR in
theorem gather_at (j : Fin 36) : k0_pay29 D R (k0_pay28 D R) (ix2 i j) = D (ix2 r j) := by
  have h0 := chunk (fun r => D (ix2 r j)) r 0 (by decide) (fun x => D (ix2 (⟨x.val, by omega⟩ : Fin 4096) j)) (fun x => by simp)
  have h1 := chunk (fun r => D (ix2 r j)) r 1024 (by decide) (fun x => D (ix2 (⟨1024 + x.val, by omega⟩ : Fin 4096) j)) (fun x => rfl)
  have h2 := chunk (fun r => D (ix2 r j)) r 2048 (by decide) (fun x => D (ix2 (⟨2048 + x.val, by omega⟩ : Fin 4096) j)) (fun x => rfl)
  have h3 := chunk (fun r => D (ix2 r j)) r 3072 (by decide) (fun x => D (ix2 (⟨3072 + x.val, by omega⟩ : Fin 4096) j)) (fun x => rfl)
  rw [← hR] at h0 h1 h2 h3
  have e28 : k0_pay28 D R (ix2 i j) = (if 0 ≤ r.val ∧ r.val < 0 + 1024 then D (ix2 r j) else 0) + (if 1024 ≤ r.val ∧ r.val < 1024 + 1024 then D (ix2 r j) else 0) := by
    rw [← h0, ← h1]
    pointwise [k0_pay28]
  have e29 : k0_pay29 D R (k0_pay28 D R) (ix2 i j) = k0_pay28 D R (ix2 i j) + (if 2048 ≤ r.val ∧ r.val < 2048 + 1024 then D (ix2 r j) else 0)
      + (if 3072 ≤ r.val ∧ r.val < 3072 + 1024 then D (ix2 r j) else 0) := by
    rw [← h2, ← h3]
    generalize k0_pay28 D R = S
    pointwise [k0_pay29]
  rw [e29, e28]
  have := r.isLt
  by_cases c1 : r.val < 1024
  · rw [if_pos (by omega), if_neg (by omega), if_neg (by omega), if_neg (by omega)]; simp
  · by_cases c2 : r.val < 2048
    · rw [if_neg (by omega), if_pos (by omega), if_neg (by omega), if_neg (by omega)]; simp
    · by_cases c3 : r.val < 3072
      · rw [if_neg (by omega), if_neg (by omega), if_pos (by omega), if_neg (by omega)]; simp
      · rw [if_neg (by omega), if_neg (by omega), if_neg (by omega), if_pos (by omega)]; simp

/-- The pick of one column by a one-hot row. -/
theorem column_pick (f : Fin 36 → EReal) (o : ℕ) (a : Fin 9) (ho : o + 9 ≤ 36) :
    (∑ x : Fin 36, f x * FloatOps.sitofp (F := Ideal) .f32 (BitVec.setWidth 32
      (IntOp.cmpi .eq (BitVec.ofNat 32 x.val) (IntOp.addi (BitVec.ofNat 32 o) (BitVec.ofNat 32 a.val)))) : EReal) = f ⟨o + a.val, by omega⟩ := by
  have e : ∀ x : Fin 36, (FloatOps.sitofp (F := Ideal) .f32 (BitVec.setWidth 32
      (IntOp.cmpi .eq (BitVec.ofNat 32 x.val) (IntOp.addi (BitVec.ofNat 32 o) (BitVec.ofNat 32 a.val)))) : EReal) =
      if x = ⟨o + a.val, by omega⟩ then 1 else 0 := fun x => by
    rw [show IntOp.addi (BitVec.ofNat 32 o) (BitVec.ofNat 32 a.val) = BitVec.ofNat 32 (o + a.val) by
        rw [IntOp.addi, ← BitVec.ofNat_add], eq_ofNat (by omega) (by omega), flag_at]
    simp [Fin.ext_iff]
  simp only [e]
  rw [sum_pick _ ⟨o + a.val, by omega⟩ (fun i hi => by rw [if_neg hi, mul_zero]), if_pos rfl, mul_one]

variable (a : Fin 9) (hA : A (ix2 i 0) = BitVec.ofNat 32 a.val)

include hR hA in
theorem kB0_at : kB0 D R A (ix2 i 0) = D (ix2 r (⟨0 + a.val, by omega⟩ : Fin 36)) := by
  rw [← gather_at D R i r hR, ← column_pick (fun j => k0_pay29 D R (k0_pay28 D R) (ix2 i j)) 0 a (by decide), ← hA]
  unfold kB0
  generalize k0_pay28 D R = S
  pointwise [k0_pay30]
include hR hA in
theorem kB1_at : kB1 D R A (ix2 i 0) = D (ix2 r (⟨9 + a.val, by omega⟩ : Fin 36)) := by
  rw [← gather_at D R i r hR, ← column_pick (fun j => k0_pay29 D R (k0_pay28 D R) (ix2 i j)) 9 a (by decide), ← hA]
  unfold kB1
  generalize k0_pay28 D R = S
  pointwise [k0_pay31]
include hR hA in
theorem kB2_at : kB2 D R A (ix2 i 0) = D (ix2 r (⟨18 + a.val, by omega⟩ : Fin 36)) := by
  rw [← gather_at D R i r hR, ← column_pick (fun j => k0_pay29 D R (k0_pay28 D R) (ix2 i j)) 18 a (by decide), ← hA]
  unfold kB2
  generalize k0_pay28 D R = S
  pointwise [k0_pay32, k0_pay33]
include hR hA in
theorem kB3_at : kB3 D R A (ix2 i 0) = D (ix2 r (⟨27 + a.val, by omega⟩ : Fin 36)) := by
  rw [← gather_at D R i r hR, ← column_pick (fun j => k0_pay29 D R (k0_pay28 D R) (ix2 i j)) 27 a (by decide), ← hA]
  unfold kB3
  generalize k0_pay29 D R (k0_pay28 D R) = S
  pointwise [k0_pay34]

end Cert.KernelIdeal.Hand
-- ==== Proof.KernelEnd.lean ====
module

public import proofs.«01_k».proof.Proof.KernelBoxes

@[expose] public section

set_option maxRecDepth 16384

noncomputable section

/-! The kernel's result at an index: the detections of the specification. -/

namespace Cert.KernelIdeal.Hand

open Cert.KernelIdeal Cert.KernelIdeal.Gen
open Idealize.ShloMosaic Idealize.ShloMosaic.TcCoe Idealize.ShloMosaic.Tactic
open Cert.Detect

variable (a0 : FVec Ideal S36x64x64 .f32) (a2 : FVec Ideal S4096x720 .f32) (a3 : FVec Ideal S4096x36 .f32) (a4 : IVec S2 32)

/-- The decoded edges over the argument arrays. -/
def aDec : FVec Ideal S4096x36 .f32 :=
  kDec (F := Ideal) (Host.slice S4096x9 ![0, 0] ![1, 4] (aAnc a0) slicesBy_S4096x36_S4096x9_0s1_0s4) (Host.slice S4096x9 ![0, 1] ![1, 4] (aAnc a0) slicesBy_S4096x36_S4096x9_0s1_1s4) (Host.slice S4096x9 ![0, 2] ![1, 4] (aAnc a0) slicesBy_S4096x36_S4096x9_0s1_2s4) (Host.slice S4096x9 ![0, 3] ![1, 4] (aAnc a0) slicesBy_S4096x36_S4096x9_0s1_3s4)
    (Host.slice S4096x9 ![0, 0] ![1, 4] a3 slicesBy_S4096x36_S4096x9_0s1_0s4) (Host.slice S4096x9 ![0, 1] ![1, 4] a3 slicesBy_S4096x36_S4096x9_0s1_1s4) (Host.slice S4096x9 ![0, 2] ![1, 4] a3 slicesBy_S4096x36_S4096x9_0s1_2s4) (Host.slice S4096x9 ![0, 3] ![1, 4] a3 slicesBy_S4096x36_S4096x9_0s1_3s4) (aImg a4)

/-- The image's extents as real numbers. -/
def ext (k : Fin 2) : EReal := FloatOps.sitofp (F := Ideal) .f32 (a4 (ix1 k))

/-- The candidates over the argument arrays. -/
def aCands : Det :=
  cands (fun p => aScores a2 (ix1 p)) (fun r j => aAnc a0 (ix2 r j)) (fun r j => a3 (ix2 r j)) (ext a4 1) (ext a4 0)

/-- The kernel's named constant is the logarithm of 1000/16. -/
theorem clip_named : Named.named (F := Ideal) Cert.KernelIdeal.κ "dw_clip" (φ := .f32) 0x40845349#32 = scaleMax :=
  IdealRules.named_const.ideal_named_scalar _ _ _ _ rfl

theorem aDec_at (r : Fin 4096) (a : Fin 9) (c : Fin 4) : aDec a0 a3 a4 (ix2 r (⟨9 * c.val + a.val, by omega⟩ : Fin 36)) =
    edge (fun j => aAnc a0 (ix2 r j)) (fun j => a3 (ix2 r j)) (ext a4 1) (ext a4 0) a c := by
  unfold aDec
  generalize aAnc a0 = anc
  fin_cases c
  · simp only [edge, lo, hi, ctr, len, ext]
    pointwise [kDec, k0_pay8, k0_pay9, k0_pay10, k0_pay11, k0_pay12, k0_pay13, k0_pay14, k0_pay15, k0_pay16, k0_pay17, aImg]
    simp only [clip_named]
  · simp only [edge, lo, hi, ctr, len, ext]
    pointwise [kDec, k0_pay8, k0_pay9, k0_pay10, k0_pay11, k0_pay12, k0_pay13, k0_pay14, k0_pay15, k0_pay16, k0_pay17, aImg]
    simp only [clip_named]
  · simp only [edge, lo, hi, ctr, len, ext]
    pointwise [kDec, k0_pay8, k0_pay9, k0_pay10, k0_pay11, k0_pay12, k0_pay13, k0_pay14, k0_pay15, k0_pay16, k0_pay17, aImg]
    simp only [clip_named]
    rw [dif_neg (by omega), dif_neg (by omega), dif_pos (by omega)]
    simp only [show 18 + a.val - 9 - 9 = a.val by omega]
  · simp only [edge, lo, hi, ctr, len, ext]
    pointwise [kDec, k0_pay8, k0_pay9, k0_pay10, k0_pay11, k0_pay12, k0_pay13, k0_pay14, k0_pay15, k0_pay16, k0_pay17, aImg]
    simp only [clip_named]
    rw [dif_neg (by omega), dif_neg (by omega), dif_neg (by omega)]
    simp only [show 27 + a.val - 9 - 9 - 9 = a.val by omega]

theorem aIdx_at (i : Fin 1000) : aIdx a2 (ix2 (up i) 0) = BitVec.ofNat 32 (order (fun p => aScores a2 (ix1 p)) (i.castLE (by decide))).val := by
  rw [show aIdx a2 (ix2 (up i) 0) = (aTop a2).2 (ix1 (up i)) by unfold aIdx; pointwise]
  exact (topK_both (aScores a2) _ (by decide) (up i)).2
theorem aRaw_at (i : Fin 1000) : aRaw a2 (ix2 (up i) 0) = aScores a2 (ix1 (order (fun p => aScores a2 (ix1 p)) (i.castLE (by decide)))) := by
  rw [show aRaw a2 (ix2 (up i) 0) = (aTop a2).1 (ix1 (up i)) by unfold aRaw; pointwise]
  exact (topK_both (aScores a2) _ (by decide) (up i)).1

theorem box_eq (c : Fin 4) (i : Fin 1000) : (aCands a0 a2 a3 a4).box c i =
    edge (fun j => aAnc a0 (ix2 (rowOf (order (fun p => aScores a2 (ix1 p)) (i.castLE (by decide)))) j))
      (fun j => a3 (ix2 (rowOf (order (fun p => aScores a2 (ix1 p)) (i.castLE (by decide)))) j)) (ext a4 1) (ext a4 0)
      (ancOf (order (fun p => aScores a2 (ix1 p)) (i.castLE (by decide)))) c := by
  unfold aCands
  rw [cands_box]

theorem holds_args : Holds (aCands a0 a2 a3 a4) (aRaw a2) (kLab (F := Ideal) (aIdx a2))
    (kB0 (aDec a0 a3 a4) (kRow (F := Ideal) (aIdx a2)) (kAnc (F := Ideal) (aIdx a2)))
    (kB1 (aDec a0 a3 a4) (kRow (F := Ideal) (aIdx a2)) (kAnc (F := Ideal) (aIdx a2)))
    (kB2 (aDec a0 a3 a4) (kRow (F := Ideal) (aIdx a2)) (kAnc (F := Ideal) (aIdx a2)))
    (kB3 (aDec a0 a3 a4) (kRow (F := Ideal) (aIdx a2)) (kAnc (F := Ideal) (aIdx a2))) where
  sc i := by
    unfold aCands
    rw [aRaw_at, cands_sc]
  lab i := by
    have hi := aIdx_at a2 i
    unfold aCands
    rw [cands_lab]
    generalize order (fun p => aScores a2 (ix1 p)) (i.castLE (by decide)) = q at hi ⊢
    exact kLab_at (aIdx a2) (up i) _ hi q.isLt
  b0 i := by
    have hi := aIdx_at a2 i
    rw [box_eq]
    generalize order (fun p => aScores a2 (ix1 p)) (i.castLE (by decide)) = q at hi
    rw [← aDec_at]
    exact kB0_at (aDec a0 a3 a4) (kRow (F := Ideal) (aIdx a2)) (kAnc (F := Ideal) (aIdx a2)) (up i) (rowOf q) (kRow_at (aIdx a2) (up i) q.val hi q.isLt)
      (ancOf q) (kAnc_at (aIdx a2) (up i) q.val hi q.isLt)
  b1 i := by
    have hi := aIdx_at a2 i
    rw [box_eq]
    generalize order (fun p => aScores a2 (ix1 p)) (i.castLE (by decide)) = q at hi
    rw [← aDec_at]
    exact kB1_at (aDec a0 a3 a4) (kRow (F := Ideal) (aIdx a2)) (kAnc (F := Ideal) (aIdx a2)) (up i) (rowOf q) (kRow_at (aIdx a2) (up i) q.val hi q.isLt)
      (ancOf q) (kAnc_at (aIdx a2) (up i) q.val hi q.isLt)
  b2 i := by
    have hi := aIdx_at a2 i
    rw [box_eq]
    generalize order (fun p => aScores a2 (ix1 p)) (i.castLE (by decide)) = q at hi
    rw [← aDec_at]
    exact kB2_at (aDec a0 a3 a4) (kRow (F := Ideal) (aIdx a2)) (kAnc (F := Ideal) (aIdx a2)) (up i) (rowOf q) (kRow_at (aIdx a2) (up i) q.val hi q.isLt)
      (ancOf q) (kAnc_at (aIdx a2) (up i) q.val hi q.isLt)
  b3 i := by
    have hi := aIdx_at a2 i
    rw [box_eq]
    generalize order (fun p => aScores a2 (ix1 p)) (i.castLE (by decide)) = q at hi
    rw [← aDec_at]
    exact kB3_at (aDec a0 a3 a4) (kRow (F := Ideal) (aIdx a2)) (kAnc (F := Ideal) (aIdx a2)) (up i) (rowOf q) (kRow_at (aIdx a2) (up i) q.val hi q.isLt)
      (ancOf q) (kAnc_at (aIdx a2) (up i) q.val hi q.isLt)
  overlap i j := cands_overlap _ _ _ _ _ i j

/-- The kernel's result is the detections of the specification. -/
theorem kResult_at (n : Fin 100) (c : Fin 6) : kResult a0 a2 a3 a4 (ix2 n c) = (aCands a0 a2 a3 a4).out n c := by
  have H := holds_args a0 a2 a3 a4
  refine Eq.trans ?_ (kSelect_at H _ (kFinal_at H) c n)
  unfold kResult
  generalize hB : kBlock a0 a2 a3 a4 = B
  rw [show extractStridedSlice S100x6 ![0, 0] (transpose S128x8 [1, 0] B transposes_S8x128_S128x8_1_0) slices_S128x8_S100x6_0_0 (ix2 n c) =
    B (ix2 (⟨c.val, by omega⟩ : Fin 8) (⟨n.val, by omega⟩ : Fin 128)) by pointwise, ← hB]
  rfl

end Cert.KernelIdeal.Hand
-- ==== Proof.RefRun.lean ====
module

public import proofs.«01_k».proof.Proof.Gen.ReferenceIdeal.Run
public import Idealize.ShloMosaic.Lib.Quiescent
public import Idealize.ShloMosaic.Lib.Claim

@[expose] public section

noncomputable section

/-! The reference's run: its argument arrays end unchanged and its counters at zero. -/

namespace Cert.ReferenceIdeal.Hand

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-- The argument arrays: no operation writes one. -/
abbrev argRefs : List (Ref sig .tc) := [main_arg0, main_arg1, main_arg2, main_arg3, main_arg4]

theorem pre_args (V : Valuation τ sig (Elt F)) (r : Ref sig .tc) (hr : r ∈ argRefs) :
    afterL preI V (Proc.devRef .tc r) = V (Proc.devRef .tc r) := by
  simp only [preI, afterL_cons, afterL_nil]
  rw [after_of_writes_sub hostOps0_8 _ hostOps0_8_writes (by revert r; decide +kernel),
    after_of_writes_sub hostOps0_7 _ hostOps0_7_writes (by revert r; decide +kernel),
    after_of_writes_sub hostOps0_6 _ hostOps0_6_writes (by revert r; decide +kernel),
    after_of_writes_sub hostOps0_5 _ hostOps0_5_writes (by revert r; decide +kernel),
    after_of_writes_sub hostOps0_4 _ hostOps0_4_writes (by revert r; decide +kernel),
    after_of_writes_sub hostOps0_3 _ hostOps0_3_writes (by revert r; decide +kernel),
    after_of_writes_sub hostOps0_2 _ hostOps0_2_writes (by revert r; decide +kernel),
    after_of_writes_sub hostOps0_1 _ hostOps0_1_writes (by revert r; decide +kernel),
    after_of_writes_sub hostOps0 _ hostOps0_writes (by revert r; decide +kernel)]

/-! The buffers the operations after the loop write, stretch by stretch. -/

abbrev post9_W : List (Ref sig .tc) := [main_v172, main_cst_30]
theorem post9_writes : (hostOps0_9 : List (HloOp τ sig (Elt F))).Forall fun op => op.writes ⊆ (post9_W.map (Proc.devRef (τ := τ) .tc)).toFinset :=
  StableHlo.forall_writes_sub_of_map rfl
abbrev post10_W : List (Ref sig .tc) := [main_call4_v0, main_call4_v1, main_v173]
theorem post10_writes : (hostOps0_10 : List (HloOp τ sig (Elt F))).Forall fun op => op.writes ⊆ (post10_W.map (Proc.devRef (τ := τ) .tc)).toFinset :=
  StableHlo.forall_writes_sub_of_map rfl
abbrev post11_W : List (Ref sig .tc) := [main_values_31, main_indices_32, main_c_33, main_v174, main_v175, main_c_34, main_v176, main_v177, main_v178, main_v179, main_v180, main_c_35, main_v181, main_v182, main_c_36, main_v183, main_v184, main_v185, main_v186, main_v187, main_v188, main_cst_37, main_v189, main_v190, main_cst_38]
theorem post11_writes : (hostOps0_11 : List (HloOp τ sig (Elt F))).Forall fun op => op.writes ⊆ (post11_W.map (Proc.devRef (τ := τ) .tc)).toFinset :=
  StableHlo.forall_writes_sub_of_map rfl
abbrev post12_W : List (Ref sig .tc) := [main_call5_v0, main_call5_v1, main_v191]
theorem post12_writes : (hostOps0_12 : List (HloOp τ sig (Elt F))).Forall fun op => op.writes ⊆ (post12_W.map (Proc.devRef (τ := τ) .tc)).toFinset :=
  StableHlo.forall_writes_sub_of_map rfl
abbrev post13_W : List (Ref sig .tc) := [main_v192, main_cst_39]
theorem post13_writes : (hostOps0_13 : List (HloOp τ sig (Elt F))).Forall fun op => op.writes ⊆ (post13_W.map (Proc.devRef (τ := τ) .tc)).toFinset :=
  StableHlo.forall_writes_sub_of_map rfl
abbrev post14_W : List (Ref sig .tc) := [main_call6_v0, main_call6_v1, main_call6_v2, main_v193]
theorem post14_writes : (hostOps0_14 : List (HloOp τ sig (Elt F))).Forall fun op => op.writes ⊆ (post14_W.map (Proc.devRef (τ := τ) .tc)).toFinset :=
  StableHlo.forall_writes_sub_of_map rfl
abbrev post15_W : List (Ref sig .tc) := [main_cst_40]
theorem post15_writes : (hostOps0_15 : List (HloOp τ sig (Elt F))).Forall fun op => op.writes ⊆ (post15_W.map (Proc.devRef (τ := τ) .tc)).toFinset :=
  StableHlo.forall_writes_sub_of_map rfl
abbrev post16_W : List (Ref sig .tc) := [main_call7_v0, main_call7_v1, main_v194]
theorem post16_writes : (hostOps0_16 : List (HloOp τ sig (Elt F))).Forall fun op => op.writes ⊆ (post16_W.map (Proc.devRef (τ := τ) .tc)).toFinset :=
  StableHlo.forall_writes_sub_of_map rfl
abbrev post17_W : List (Ref sig .tc) := [main_v195, main_v196, main_v197]
theorem post17_writes : (hostOps0_17 : List (HloOp τ sig (Elt F))).Forall fun op => op.writes ⊆ (post17_W.map (Proc.devRef (τ := τ) .tc)).toFinset :=
  StableHlo.forall_writes_sub_of_map rfl

theorem post_args (V : Valuation τ sig (Elt F)) (r : Ref sig .tc) (hr : r ∈ argRefs) :
    afterL postI V (Proc.devRef .tc r) = V (Proc.devRef .tc r) := by
  simp only [postI, afterL_cons, afterL_nil]
  rw [after_of_writes_sub hostOps0_17 _ post17_writes (by revert r; decide +kernel),
    after_of_writes_sub hostOps0_16 _ post16_writes (by revert r; decide +kernel),
    after_of_writes_sub hostOps0_15 _ post15_writes (by revert r; decide +kernel),
    after_of_writes_sub hostOps0_14 _ post14_writes (by revert r; decide +kernel),
    after_of_writes_sub hostOps0_13 _ post13_writes (by revert r; decide +kernel),
    after_of_writes_sub hostOps0_12 _ post12_writes (by revert r; decide +kernel),
    after_of_writes_sub hostOps0_11 _ post11_writes (by revert r; decide +kernel),
    after_of_writes_sub hostOps0_10 _ post10_writes (by revert r; decide +kernel),
    after_of_writes_sub hostOps0_9 _ post9_writes (by revert r; decide +kernel)]

/-- A buffer that neither the body nor the condition writes is, at every trip, as at the loop's entry. -/
theorem atK_keep (r : Ref sig .tc) (hc : r ∉ condOps_W) (hb : r ∉ while0Ops0_W) (c : Dev nD) :
    ∀ k, atK m k c (Proc.devRef .tc r) = entryContents preI m c (Proc.devRef .tc r)
  | 0 => rfl
  | k + 1 => by
    rw [show atK m (k + 1) c = afterL bodyI (after condOps (atK m k c)) from rfl]
    rw [show afterL (F := F) bodyI (after condOps (atK m k c)) = after while0Ops0 (after condOps (atK m k c)) from rfl]
    rw [after_of_writes_sub while0Ops0 _ while0Ops0_writes hb, after_of_writes_sub condOps _ condOps_writes hc,
      atK_keep r hc hb c k]

theorem final_args (c : Dev nD) (r : Ref sig .tc) (hr : r ∈ argRefs) :
    finalContents condOps preI bodyI postI 1000 m c (Proc.devRef .tc r) = m ((c.tc : Thread nD τ).loc r) := by
  unfold finalContents
  rw [post_args _ r hr, after_of_writes_sub condOps _ condOps_writes (by revert r; decide +kernel),
    show atTrip condOps bodyI (entryContents preI m) 1000 c = atK m 1000 c from rfl,
    atK_keep m r (by revert r; decide +kernel) (by revert r; decide +kernel) c 1000]
  unfold entryContents
  rw [pre_args _ r hr]

/-- Every execution ends with the result at the fold, the arguments unchanged and the counters at zero. -/
theorem run : θ_run (defs (F := F)) (onTc (τ := τ) (main (F := F))) ⟨m, fun _ => 0, ρ⟩ (fun r =>
    (∀ c : Dev nD,
      r.2.mem ((c.tc : Thread nD τ).loc main_v197) = finalContents condOps preI bodyI postI 1000 m c (Proc.devRef .tc main_v197)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c =>
    ⟨h c main_v197 rfl,
      (h c main_arg0 rfl).trans (final_args m c main_arg0 (by decide)),
      (h c main_arg1 rfl).trans (final_args m c main_arg1 (by decide)),
      (h c main_arg2 rfl).trans (final_args m c main_arg2 (by decide)),
      (h c main_arg3 rfl).trans (final_args m c main_arg3 (by decide)),
      (h c main_arg4 rfl).trans (final_args m c main_arg4 (by decide))⟩,
    sem_eq_zero_of_no_sems (by decide) _⟩) (run_fold m ρ)

end Cert.ReferenceIdeal.Hand

end
-- ==== Proof.RefStages.lean ====
module

public import proofs.«01_k».proof.Proof.RefRun
public import proofs.«01_k».proof.Proof.Spec
public import Idealize.ShloMosaic.Lib.StableHlo.RunRead
public import Idealize.ShloMosaic.Lib.Claim

@[expose] public section

set_option maxRecDepth 16384

noncomputable section

/-! The reference's buffers when its loop begins and after it, stage by stage, as functions of earlier ones. -/

namespace Cert.ReferenceIdeal.Hand

open Cert.ReferenceIdeal Cert.ReferenceIdeal.Gen Cert.ReferenceIdeal.Value
open Idealize.ShloMosaic Idealize.ShloMosaic.TcCoe Idealize.ShloMosaic.Tactic Idealize.SL.Sem
open Idealize.ShloMosaic.StableHlo

/-- One coordinate of the grid cells, negative ones counted from the end. -/
def rWrap (x : IVec S4096 32) : IVec S4096x1 32 :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 64#32))) x)
/-- The grid cells, one row each. -/
def rCells (a1 : IVec S4096x2 32) : IVec S4096x2 32 :=
  concatenate S4096x2 1
    [⟨S4096x1, rWrap (shapeCast S4096 (extractStridedSlice S4096x1 ![0, 0] a1 slices_S4096x2_S4096x1_0_0) shapeCasts_S4096x1_S4096)⟩,
     ⟨S4096x1, rWrap (shapeCast S4096 (extractStridedSlice S4096x1 ![0, 1] a1 slices_S4096x2_S4096x1_0_1) shapeCasts_S4096x1_S4096)⟩]
    concatenates_S4096x1_S4096x1_S4096x2_d1
/-- The anchors of the grid cells. -/
def rAnc (a0 : FVec Ideal S36x64x64 .f32) (a1 : IVec S4096x2 32) : FVec Ideal S4096x36 .f32 :=
  Host.gather gather_S64x64x36_S4096x2_S4096x36_1_01_n_n_01_1_1136
    (transpose S64x64x36 [1, 2, 0] a0 transposes_S36x64x64_S64x64x36_1_2_0) (rCells a1)
/-- The scores after the logistic function. -/
def rSig (a2 : FVec Ideal S4096x720 .f32) : FVec Ideal S36864x80 .f32 :=
  Host.divf (broadcastInDim S36864x80 ![] bcast_S_S36864x80 (constant (F := Ideal) S_ .f32 0x3F800000#32))
    (addf (broadcastInDim S36864x80 ![] bcast_S_S36864x80 (constant (F := Ideal) S_ .f32 0x3F800000#32))
      (Host.exp (Host.negf (shapeCast S36864x80 a2 shapeCasts_S4096x720_S36864x80))))
/-- Column 0 of a box array. -/
def rC0 (x : FVec Ideal S36864x4 .f32) : FVec Ideal S36864 .f32 :=
  shapeCast S36864 (extractStridedSlice S36864x1 ![0, 0] x slices_S36864x4_S36864x1_0_0) shapeCasts_S36864x1_S36864
/-- Column 1 of a box array. -/
def rC1 (x : FVec Ideal S36864x4 .f32) : FVec Ideal S36864 .f32 :=
  shapeCast S36864 (extractStridedSlice S36864x1 ![0, 1] x slices_S36864x4_S36864x1_0_1) shapeCasts_S36864x1_S36864
/-- Column 2 of a box array. -/
def rC2 (x : FVec Ideal S36864x4 .f32) : FVec Ideal S36864 .f32 :=
  shapeCast S36864 (extractStridedSlice S36864x1 ![0, 2] x slices_S36864x4_S36864x1_0_2) shapeCasts_S36864x1_S36864
/-- Column 3 of a box array. -/
def rC3 (x : FVec Ideal S36864x4 .f32) : FVec Ideal S36864 .f32 :=
  shapeCast S36864 (extractStridedSlice S36864x1 ![0, 3] x slices_S36864x4_S36864x1_0_3) shapeCasts_S36864x1_S36864
/-- A constant for every box. -/
def rConst (b : BitVec 32) : FVec Ideal S36864 .f32 := broadcastInDim S36864 ![] bcast_S_S36864 (constant (F := Ideal) S_ .f32 b)
/-- The image's height and width. -/
def rH (a4 : IVec S2 32) : FVec Ideal S_ .f32 := sitofp .f32 (shapeCast S_ (extractStridedSlice S1 ![0] a4 slices_S2_S1_0) shapeCasts_S1_S_)
@[inherit_doc rH]
def rW (a4 : IVec S2 32) : FVec Ideal S_ .f32 := sitofp .f32 (shapeCast S_ (extractStridedSlice S1 ![1] a4 slices_S2_S1_1) shapeCasts_S1_S_)
/-- A decoded box's centre along one axis. -/
def rCtr (d l h : FVec Ideal S36864 .f32) : FVec Ideal S36864 .f32 :=
  addf (mulf d (subf h l)) (addf l (mulf (rConst 0x3F000000#32) (subf h l)))
/-- The largest logarithm of a scale, as the program takes it: the logarithm of 1000/16. -/
def rCap : FVec Ideal S_ .f32 := Host.log (constant (F := Ideal) S_ .f32 0x427A0000#32)
/-- A decoded box's length along one axis. -/
def rLen (d l h : FVec Ideal S36864 .f32) : FVec Ideal S36864 .f32 :=
  mulf (Host.exp (minimumf d (broadcastInDim S36864 ![] bcast_S_S36864 rCap))) (subf h l)
/-- A coordinate kept inside the image. -/
def rClip (e : FVec Ideal S_ .f32) (x : FVec Ideal S36864 .f32) : FVec Ideal S36864 .f32 :=
  minimumf (broadcastInDim S36864 ![] bcast_S_S36864 e) (maximumf (rConst 0x00000000#32) x)
/-- The decoded boxes' lower and upper edges along one axis. -/
def rLo (e : FVec Ideal S_ .f32) (d s l h : FVec Ideal S36864 .f32) : FVec Ideal S36864 .f32 :=
  rClip e (subf (rCtr d l h) (mulf (rConst 0x3F000000#32) (rLen s l h)))
@[inherit_doc rLo]
def rHi (e : FVec Ideal S_ .f32) (d s l h : FVec Ideal S36864 .f32) : FVec Ideal S36864 .f32 :=
  rClip e (addf (rCtr d l h) (mulf (rConst 0x3F000000#32) (rLen s l h)))
/-- A row of numbers as a column. -/
def rCol (x : FVec Ideal S36864 .f32) : FVec Ideal S36864x1 .f32 := broadcastInDim S36864x1 ![0] bcast_S36864_S36864x1_0 x
/-- The decoded boxes. -/
def rDec (an rg : FVec Ideal S36864x4 .f32) (a4 : IVec S2 32) : FVec Ideal S36864x4 .f32 :=
  concatenate S36864x4 1
    [⟨S36864x1, rCol (rLo (rW a4) (rC0 rg) (rC2 rg) (rC0 an) (rC2 an))⟩,
     ⟨S36864x1, rCol (rLo (rH a4) (rC1 rg) (rC3 rg) (rC1 an) (rC3 an))⟩,
     ⟨S36864x1, rCol (rHi (rW a4) (rC0 rg) (rC2 rg) (rC0 an) (rC2 an))⟩,
     ⟨S36864x1, rCol (rHi (rH a4) (rC1 rg) (rC3 rg) (rC1 an) (rC3 an))⟩]
    concatenates_S36864x1_S36864x1_S36864x1_S36864x1_S36864x4_d1

/-- A line of operations, cut after its first ones. -/
theorem after_cut (n : ℕ) (ops : List (HloOp τ sig (Elt Ideal))) (V : Valuation τ sig (Elt Ideal)) :
    after ops V = after (ops.drop n) (after (ops.take n) V) := by
  conv_lhs => rw [← List.take_append_drop n ops]
  generalize ops.take n = l₁
  generalize ops.drop n = l₂
  induction l₁ generalizing V with
  | nil => rfl
  | cons op l ih => exact ih _

variable (V : Valuation τ sig (Elt Ideal))

set_option maxHeartbeats 4000000 in
/-- The scores before the last stretch. -/
theorem s_v25 : after (hostOps0 (F := Ideal)) V (Proc.devRef .tc main_v25) = rSig (V (Proc.devRef .tc main_arg2)) := by
  after_reads_simp
  rfl
set_option maxHeartbeats 4000000 in
theorem s_v27 : after (hostOps0 (F := Ideal)) V (Proc.devRef .tc main_v27) = shapeCast S36864x4 (rAnc (V (Proc.devRef .tc main_arg0)) (V (Proc.devRef .tc main_arg1))) shapeCasts_S4096x36_S36864x4 := by
  after_reads_simp
  rfl
/-- The contents before the stretch that ends at the loop. -/
def V7 : Valuation τ sig (Elt Ideal) :=
  after hostOps0_7 (after hostOps0_6 (after hostOps0_5 (after hostOps0_4 (after hostOps0_3 (after hostOps0_2 (after hostOps0_1 (after hostOps0 V)))))))

set_option maxHeartbeats 4000000 in
theorem s_v94 : after ((hostOps0_8 (F := Ideal)).take 5) (V7 V) (Proc.devRef .tc main_v95) =
    rDec (shapeCast S36864x4 (rAnc (V (Proc.devRef .tc main_arg0)) (V (Proc.devRef .tc main_arg1))) shapeCasts_S4096x36_S36864x4)
      (shapeCast S36864x4 (V (Proc.devRef .tc main_arg3)) shapeCasts_S4096x36_S36864x4) (V (Proc.devRef .tc main_arg4)) := by
  unfold V7
  after_reads_simp
  rfl
theorem s_v25' : after ((hostOps0_8 (F := Ideal)).take 5) (V7 V) (Proc.devRef .tc main_v25) = rSig (V (Proc.devRef .tc main_arg2)) := by
  rw [← s_v25]
  unfold V7
  after_reads_simp
-- ==== Proof.RefStages2.lean ====
module

public import proofs.«01_k».proof.Proof.RefStages

@[expose] public section

set_option maxRecDepth 16384

noncomputable section

/-! The reference's last stretch before its loop: the candidates, their classes and the overlaps of their boxes. -/

namespace Cert.ReferenceIdeal.Hand

open Cert.ReferenceIdeal Cert.ReferenceIdeal.Gen Cert.ReferenceIdeal.Value
open Idealize.ShloMosaic Idealize.ShloMosaic.TcCoe Idealize.ShloMosaic.Tactic Idealize.SL.Sem
open Idealize.ShloMosaic.StableHlo

/-- The scores in one row. -/
def rFlat (x : FVec Ideal S36864x80 .f32) : FVec Ideal S2949120 .f32 := shapeCast S2949120 x shapeCasts_S36864x80_S2949120
/-- The 1000 best scores and their positions. -/
def rTop (x : FVec Ideal S2949120 .f32) : FVec Ideal S1000 .f32 × IVec S1000 32 :=
  Host.topK S1000 0 (FloatOps.cmpfTotal (F := Ideal) (φ := .f32) CmpDirection.gt) x sliceFits_S2949120_S1000
/-- A word for every candidate. -/
def rWords (b : BitVec 32) : IVec S1000 32 := broadcastInDim S1000 ![] bcast_S_S1000 (constantI S_ 32 b)
/-- A number for every candidate. -/
def rNums (b : BitVec 32) : FVec Ideal S1000 .f32 := broadcastInDim S1000 ![] bcast_S_S1000 (constant (F := Ideal) S_ .f32 b)
/-- The boxes of the candidates. -/
def rBoxes (dec : FVec Ideal S36864x4 .f32) (p : IVec S1000 32) : FVec Ideal S1000x4 .f32 :=
  Host.gather gather_S36864x4_S1000x1_S1000x4_1_0_n_n_0_1_14 dec
    (broadcastInDim S1000x1 ![0] bcast_S1000_S1000x1_0
      (select (cmpi .slt (Host.divsi p (rWords 80#32)) (rWords 0#32)) (addi (Host.divsi p (rWords 80#32)) (rWords 36864#32)) (Host.divsi p (rWords 80#32))))
/-- The classes of the candidates. -/
def rLabs (p : IVec S1000 32) : FVec Ideal S1000 .f32 := sitofp .f32 (Host.remsi p (rWords 80#32))
/-- Which candidates score above the threshold. -/
def rValid (s : FVec Ideal S1000 .f32) : IVec S1000 1 := cmpf .ogt s (rNums 0x3D4CCCCD#32)
/-- The boxes moved apart by class. -/
def rMoved (b : FVec Ideal S1000x4 .f32) (l : FVec Ideal S1000 .f32) : FVec Ideal S1000x4 .f32 :=
  addf b (broadcastInDim S1000x4 ![0, 1] bcast_S1000x1_S1000x4_0_1 (broadcastInDim S1000x1 ![0] bcast_S1000_S1000x1_0
    (mulf l (broadcastInDim S1000 ![] bcast_S_S1000
      (addf (Host.reduce (FloatOps.maximumf (F := Ideal) (φ := .f32)) b (constant (F := Ideal) S_ .f32 0xFF800000#32) reducesTo_S1000x4_S_d0_1 h_S_) (constant (F := Ideal) S_ .f32 0x3F800000#32))))))
/-- Column 0 of the moved boxes. -/
def rK0 (x : FVec Ideal S1000x4 .f32) : FVec Ideal S1000 .f32 :=
  shapeCast S1000 (extractStridedSlice S1000x1 ![0, 0] x slices_S1000x4_S1000x1_0_0) shapeCasts_S1000x1_S1000
/-- Column 1 of the moved boxes. -/
def rK1 (x : FVec Ideal S1000x4 .f32) : FVec Ideal S1000 .f32 :=
  shapeCast S1000 (extractStridedSlice S1000x1 ![0, 1] x slices_S1000x4_S1000x1_0_1) shapeCasts_S1000x1_S1000
/-- Column 2 of the moved boxes. -/
def rK2 (x : FVec Ideal S1000x4 .f32) : FVec Ideal S1000 .f32 :=
  shapeCast S1000 (extractStridedSlice S1000x1 ![0, 2] x slices_S1000x4_S1000x1_0_2) shapeCasts_S1000x1_S1000
/-- Column 3 of the moved boxes. -/
def rK3 (x : FVec Ideal S1000x4 .f32) : FVec Ideal S1000 .f32 :=
  shapeCast S1000 (extractStridedSlice S1000x1 ![0, 3] x slices_S1000x4_S1000x1_0_3) shapeCasts_S1000x1_S1000
/-- The boxes' areas. -/
def rArea (x : FVec Ideal S1000x4 .f32) : FVec Ideal S1000 .f32 :=
  mulf (maximumf (subf (rK2 x) (rK0 x)) (rNums 0x00000000#32)) (maximumf (subf (rK3 x) (rK1 x)) (rNums 0x00000000#32))
/-- A number of the first box of every pair, and of the second. -/
def rFst (x : FVec Ideal S1000 .f32) : FVec Ideal S1000x1000 .f32 :=
  broadcastInDim S1000x1000 ![0, 1] bcast_S1000x1_S1000x1000_0_1 (broadcastInDim S1000x1 ![0] bcast_S1000_S1000x1_0 x)
@[inherit_doc rFst]
def rSnd (x : FVec Ideal S1000 .f32) : FVec Ideal S1000x1000 .f32 :=
  broadcastInDim S1000x1000 ![0, 1] bcast_S1x1000_S1000x1000_0_1 (broadcastInDim S1x1000 ![1] bcast_S1000_S1x1000_1 x)
/-- A number for every pair. -/
def rPairs (b : BitVec 32) : FVec Ideal S1000x1000 .f32 := broadcastInDim S1000x1000 ![] bcast_S_S1000x1000 (constant (F := Ideal) S_ .f32 b)
/-- The common length of two intervals. -/
def rSide (lo hi : FVec Ideal S1000 .f32) : FVec Ideal S1000x1000 .f32 :=
  maximumf (subf (minimumf (rFst hi) (rSnd hi)) (maximumf (rFst lo) (rSnd lo))) (rPairs 0x00000000#32)
/-- The common area of two boxes. -/
def rInter (x : FVec Ideal S1000x4 .f32) : FVec Ideal S1000x1000 .f32 := mulf (rSide (rK0 x) (rK2 x)) (rSide (rK1 x) (rK3 x))
/-- The overlap of two boxes. -/
def rIou (x : FVec Ideal S1000x4 .f32) : FVec Ideal S1000x1000 .f32 :=
  Host.divf (rInter x) (addf (subf (addf (rFst (rArea x)) (rSnd (rArea x))) (rInter x)) (rPairs 0x3089705F#32))

variable (V : Valuation τ sig (Elt Ideal))

/-- The stretch from the decoded boxes to the moved ones. -/
abbrev opsB : List (HloOp τ sig (Elt Ideal)) := ((hostOps0_8 (F := Ideal)).drop 5).take 31
/-- The stretch from the moved boxes to the loop. -/
abbrev opsC : List (HloOp τ sig (Elt Ideal)) := ((hostOps0_8 (F := Ideal)).drop 5).drop 31

theorem b_values : after opsB V (Proc.devRef .tc main_values) = (rTop (rFlat (V (Proc.devRef .tc main_v25)))).1 := by
  after_reads_simp
  rfl
theorem b_labs : after opsB V (Proc.devRef .tc main_v108) = rLabs (rTop (rFlat (V (Proc.devRef .tc main_v25)))).2 := by
  after_reads_simp
  rfl
theorem b_valid : after opsB V (Proc.devRef .tc main_v110) = rValid (rTop (rFlat (V (Proc.devRef .tc main_v25)))).1 := by
  after_reads_simp
  rfl
theorem b_boxes : after opsB V (Proc.devRef .tc main_v105) = rBoxes (V (Proc.devRef .tc main_v95)) (rTop (rFlat (V (Proc.devRef .tc main_v25)))).2 := by
  after_reads_simp
  rfl
theorem b_moved : after opsB V (Proc.devRef .tc main_v117) =
    rMoved (rBoxes (V (Proc.devRef .tc main_v95)) (rTop (rFlat (V (Proc.devRef .tc main_v25)))).2) (rLabs (rTop (rFlat (V (Proc.devRef .tc main_v25)))).2) := by
  after_reads_simp
  rfl
set_option maxHeartbeats 4000000 in
theorem c_iou : after opsC V (Proc.devRef .tc main_v171_1) = rIou (V (Proc.devRef .tc main_v117)) := by
  after_reads_simp
  rfl
theorem c_valid : after opsC V (Proc.devRef .tc main_v171_0) = V (Proc.devRef .tc main_v110) := by
  after_reads_simp
  rfl
theorem c_iota : after opsC V (Proc.devRef .tc main_v171_2) = iotaInDim S1000 32 0 := by
  after_reads_simp
  rfl
theorem c_index : after opsC V (Proc.devRef .tc main_v171_4) = constantI S_ 32 0#32 := by
  after_reads_simp
  rfl
theorem c_keep : after opsC V (Proc.devRef .tc main_v171_5) = broadcastInDim S1000 ![] bcast_S_S1000 (constantI S_ 1 1#1) := by
  after_reads_simp
  rfl
theorem c_kept (r : Ref sig .tc) (hr : r ∈ [main_values, main_v108, main_v110, main_v105]) : after opsC V (Proc.devRef .tc r) = V (Proc.devRef .tc r) := by
  simp only [List.mem_cons, List.not_mem_nil, or_false] at hr
  rcases hr with rfl | rfl | rfl | rfl <;> after_reads_simp
-- ==== Proof.RefNms.lean ====
module

public import proofs.«01_k».proof.Proof.RefStages2
public import Idealize.ShloMosaic.Lib.Pointwise
public import Idealize.ShloMosaic.Lib.Routing.Ops
public import Idealize.ShloMosaic.Lib.Routing.OpsSet
public import Idealize.ShloMosaic.Lib.Routing.OpsPair
public import Idealize.ShloMosaic.Lib.Routing.Words

@[expose] public section

set_option maxRecDepth 16384

noncomputable section

/-! The reference's moved boxes and overlaps at an index. -/

namespace Cert.ReferenceIdeal.Hand

open Cert.ReferenceIdeal Cert.ReferenceIdeal.Gen
open Idealize.ShloMosaic Idealize.ShloMosaic.TcCoe Idealize.ShloMosaic.Tactic
open Cert.Detect

variable (d : Det) (b : FVec Ideal S1000x4 .f32) (l s : FVec Ideal S1000 .f32)

/-- The maximum over all coordinates. -/
theorem rMax_at (hb : ∀ i c, b (ix2 i c) = d.box c i) :
    Host.reduce (FloatOps.maximumf (F := Ideal) (φ := .f32)) b (constant (F := Ideal) S_ .f32 0xFF800000#32) reducesTo_S1000x4_S_d0_1 h_S_ ix0 = d.mx := by
  rw [Host.reduce_eq_fold]
  refine eq_of_forall_ge_iff fun c => ?_
  unfold Det.mx
  rw [Finset.sup_le_iff]
  show Finset.fold max _ _ _ ≤ c ↔ _
  rw [Finset.fold_max_le]
  have hbot : constant (F := Ideal) S_ .f32 0xFF800000#32 (Shape.Idx.first h_S_) = (⊥ : EReal) := by
    show Ideal.ofBits .f32 0xFF800000#32 = ⊥
    simp [Ideal.ofBits, Ideal.ieee]
  rw [hbot]
  constructor
  · rintro ⟨-, h⟩ x -
    rw [← hb]
    exact h _ (Finset.mem_filter.2 ⟨Finset.mem_univ _, Subsingleton.elim _ _⟩)
  · intro h
    refine ⟨bot_le, fun j _ => ?_⟩
    obtain ⟨i, k, rfl⟩ : ∃ (i : Fin 1000) (k : Fin 4), j = ix2 i k := ⟨j 0, j 1, eq_ix2 j⟩
    rw [hb]
    exact h (i, k) (Finset.mem_univ _)

theorem rMoved_at (hb : ∀ i c, b (ix2 i c) = d.box c i) (hl : ∀ i, l (ix1 i) = d.lab i) (i : Fin 1000) (c : Fin 4) :
    rMoved b l (ix2 i c) = d.nb d.mx c i := by
  unfold rMoved Det.nb
  rw [← hb, ← hl, ← rMax_at d b hb]
  generalize Host.reduce (FloatOps.maximumf (F := Ideal) (φ := .f32)) b (constant (F := Ideal) S_ .f32 0xFF800000#32) reducesTo_S1000x4_S_d0_1 h_S_ = M
  pointwise

theorem rIou_at (x : FVec Ideal S1000x4 .f32) (hx : ∀ i c, x (ix2 i c) = d.nb d.mx c i) (i j : Fin 1000) : rIou x (ix2 i j) = d.iou d.mx i j := by
  unfold Det.iou Det.inter Det.area
  simp only [← hx]
  pointwise [rIou, rInter, rSide, rArea, rFst, rSnd, rK0, rK1, rK2, rK3, rPairs, rNums]

theorem rValid_at (hs : ∀ i, s (ix1 i) = d.sc i) (i : Fin 1000) [Decidable (d.valid i)] : rValid s (ix1 i) = BitVec.ofBool (decide (d.valid i)) := by
  rw [show rValid s (ix1 i) = FloatOps.cmpf (F := Ideal) (φ := .f32) .ogt (s (ix1 i)) (Ideal.ofBits .f32 1028443341#32) by unfold rValid rNums; pointwise, hs]
  unfold Det.valid
  show BitVec.ofBool (decide (_ < _)) = _
  congr
/-- A small word as an integer. -/
theorem toInt_small {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]
/-- A position that is not negative is not counted from the end. -/
theorem wrap_small {n : ℕ} (h : n < 2 ^ 31) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)

theorem rLabs_at (p : IVec S1000 32) (q : Fin 2949120) (i : Fin 1000) (hp : p (ix1 i) = BitVec.ofNat 32 q.val) :
    rLabs p (ix1 i) = (((q.val % 80 : ℕ) : ℝ) : EReal) := by
  rw [show rLabs p (ix1 i) = FloatOps.sitofp (F := Ideal) .f32 (IntOp.remsi .host (p (ix1 i)) 80#32) by unfold rLabs rWords; pointwise, hp,
    Routing.remsi_word _ (by omega) (by decide) (by decide)]
  change (((BitVec.ofNat 32 (q.val % 80)).toInt : ℝ) : EReal) = _
  rw [toInt_small (by omega)]
  norm_cast
theorem rBoxes_at (dec : FVec Ideal S36864x4 .f32) (p : IVec S1000 32) (q : Fin 2949120) (i : Fin 1000) (c : Fin 4) (hp : p (ix1 i) = BitVec.ofNat 32 q.val) :
    rBoxes dec p (ix2 i c) = dec (ix2 (⟨q.val / 80, by omega⟩ : Fin 36864) c) := by
  unfold rBoxes
  refine Routing.gather_row _ rfl rfl rfl rfl rfl _ _ _ _ _ ?_ (by decide)
  pointwise [rWords]
  rw [hp, Routing.divsi_word _ (by omega) (by decide) (by decide)]
  exact wrap_small (by omega) _
-- ==== Proof.RefLoop.lean ====
module

public import proofs.«01_k».proof.Proof.RefNms
public import Idealize.ShloMosaic.Lib.DynamicIndex

@[expose] public section

set_option maxRecDepth 16384

noncomputable section

/-! The reference's suppression loop keeps the candidates of the specification. -/

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Idealize.SL Idealize.SL.Sem
open Cert.Detect

/-- An index counted from the end when it is negative. -/
def rIdx (i : IVec S_ 32) : IVec S_ 32 := select (cmpi .slt i (constantI S_ 32 0#32)) (addi i (constantI S_ 32 1000#32)) i

/-- One suppression step. -/
def rStep (keep valid : IVec S1000 1) (iou : FVec Ideal S1000x1000 .f32) (i : IVec S_ 32) : IVec S1000 1 :=
  andi keep (noti (andi
    (andi (cmpf .ogt (shapeCast S1000 (Host.dynamicSlice S1x1000 iou (fun k => ((![rIdx i, rIdx (constantI S_ 32 0#32)] : Fin 2 → IVec S_ 32) k (Shape.Idx.first h_S_)).toInt) sliceFits_S1000x1000_S1x1000) shapeCasts_S1x1000_S1000) (rNums 0x3F000000#32))
      (cmpi .sgt (iotaInDim S1000 32 0) (broadcastInDim S1000 ![] bcast_S_S1000 i)))
    (broadcastInDim S1000 ![] bcast_S_S1000
      (andi (shapeCast S_ (Host.dynamicSlice S1 keep (fun k => ((![rIdx i] : Fin 1 → IVec S_ 32) k (Shape.Idx.first h_S_)).toInt) sliceFits_S1000_S1) shapeCasts_S1_S_)
        (shapeCast S_ (Host.dynamicSlice S1 valid (fun k => ((![rIdx i] : Fin 1 → IVec S_ 32) k (Shape.Idx.first h_S_)).toInt) sliceFits_S1000_S1) shapeCasts_S1_S_)))))

theorem rIdx_first (i : IVec S_ 32) (k : ℕ) (hk : k < 1000) (hi : i ix0 = BitVec.ofNat 32 k) (e : S_.Idx) : (rIdx i e).toInt = k := by
  have : rIdx i e = BitVec.ofNat 32 k := by
    rw [Subsingleton.elim e ix0, ← wrap_small (n := k) (by omega) (IntOp.addi (BitVec.ofNat 32 k) 1000#32), ← hi]
    pointwise [rIdx]
  rw [this, toInt_small (by omega)]

theorem sgt_small {m n : ℕ} (hm : m < 1024) (hn : n < 1024) :
    IntOp.cmpi .sgt (BitVec.ofNat 32 m) (BitVec.ofNat 32 n) = BitVec.ofBool (decide (n < m)) := by
  word_cmp

theorem row_at (iou : FVec Ideal S1000x1000 .f32) (i : IVec S_ 32) (k : Fin 1000) (hi : i ix0 = BitVec.ofNat 32 k.val) (j : Fin 1000) :
    shapeCast S1000 (Host.dynamicSlice S1x1000 iou (fun k => ((![rIdx i, rIdx (constantI S_ 32 0#32)] : Fin 2 → IVec S_ 32) k (Shape.Idx.first h_S_)).toInt) sliceFits_S1000x1000_S1x1000) shapeCasts_S1x1000_S1000 (ix1 j) = iou (ix2 k j) := by
  have hk := k.isLt
  rw [Host.dynamicSlice_eq_extractStridedSlice S1x1000 iou _ ![k.val, 0] _ (by
      refine ⟨rfl, fun a => ?_⟩
      fin_cases a
      · show k.val + 1 ≤ 1000; omega
      · show 0 + 1000 ≤ 1000; omega)
    (by
      intro a
      fin_cases a
      · exact rIdx_first i k.val hk hi _
      · exact rIdx_first (constantI S_ 32 0#32) 0 (by decide) rfl (Shape.Idx.first h_S_))]
  pointwise
theorem one_at (x : IVec S1000 1) (i : IVec S_ 32) (k : Fin 1000) (hi : i ix0 = BitVec.ofNat 32 k.val) :
    shapeCast S_ (Host.dynamicSlice S1 x (fun k => ((![rIdx i] : Fin 1 → IVec S_ 32) k (Shape.Idx.first h_S_)).toInt) sliceFits_S1000_S1) shapeCasts_S1_S_ ix0 = x (ix1 k) := by
  have hk := k.isLt
  rw [Host.dynamicSlice_eq_extractStridedSlice S1 x _ ![k.val] _ (by
      refine ⟨rfl, fun a => ?_⟩
      fin_cases a
      show k.val + 1 ≤ 1000; omega)
    (by
      intro a
      fin_cases a
      exact rIdx_first i k.val hk hi _)]
  pointwise

theorem rStep_word (keep valid : IVec S1000 1) (iou : FVec Ideal S1000x1000 .f32) (i : IVec S_ 32) (k : Fin 1000) (hi : i ix0 = BitVec.ofNat 32 k.val)
    (j : Fin 1000) :
    rStep keep valid iou i (ix1 j) = IntOp.andi (keep (ix1 j)) (~~~(IntOp.andi
      (IntOp.andi (FloatOps.cmpf (F := Ideal) (φ := .f32) .ogt (iou (ix2 k j)) (Ideal.ofBits .f32 1056964608#32)) (IntOp.cmpi .sgt (BitVec.ofNat 32 j.val) (BitVec.ofNat 32 k.val)))
      (IntOp.andi (keep (ix1 k)) (valid (ix1 k))))) := by
  unfold rStep
  rw [← row_at iou i k hi j, ← one_at keep i k hi, ← one_at valid i k hi, ← hi]
  generalize shapeCast S1000 _ _ = a
  generalize shapeCast S_ _ _ = b
  generalize shapeCast S_ _ _ = e
  pointwise [rNums]

open scoped Classical in
/-- One step, on the candidates. -/
theorem rStep_at (d : Det) (keep valid : IVec S1000 1) (iou : FVec Ideal S1000x1000 .f32) (i : IVec S_ 32) (k : Fin 1000) (hi : i ix0 = BitVec.ofNat 32 k.val)
    (hk : ∀ j, keep (ix1 j) = BitVec.ofBool (decide (d.keep k.val j))) (hv : ∀ j, valid (ix1 j) = BitVec.ofBool (decide (d.valid j)))
    (ho : ∀ i j, iou (ix2 i j) = d.iou d.mx i j) (j : Fin 1000) :
    rStep keep valid iou i (ix1 j) = BitVec.ofBool (decide (d.keep (k.val + 1) j)) := by
  rw [rStep_word keep valid iou i k hi j, hk, hk, hv, ho, sgt_small (by omega) (by omega),
    show FloatOps.cmpf (F := Ideal) (φ := .f32) .ogt (d.iou d.mx k j) (Ideal.ofBits .f32 1056964608#32) = BitVec.ofBool (decide (Ideal.ofBits .f32 1056964608#32 < d.iou d.mx k j)) from rfl]
  have e := d.keep_succ k.val k.isLt j
  simp only [Fin.eta] at e
  simp only [e, Det.covers, Fin.lt_def]
  by_cases h1 : d.keep k.val j <;> by_cases h2 : Ideal.ofBits .f32 1056964608#32 < d.iou d.mx k j <;> by_cases h3 : k.val < j.val <;>
    by_cases h4 : d.keep k.val k <;> by_cases h5 : d.valid k <;> simp [h1, h2, h3, h4, h5, IntOp.andi]

variable (m : (ℓ : Loc nD τ sig) → Buf (Elt Ideal) ℓ)

theorem step_eq (V : Valuation τ sig (Elt Ideal)) (h2 : V (Proc.devRef .tc main_v171_2) = iotaInDim S1000 32 0) :
    step_main_v171_5 V = rStep (V (Proc.devRef .tc main_v171_5)) (V (Proc.devRef .tc main_v171_0)) (V (Proc.devRef .tc main_v171_1)) (V (Proc.devRef .tc main_v171_4)) := by
  unfold step_main_v171_5
  rw [h2]
  rfl

open scoped Classical in
/-- What the carried buffers hold before the `k`-th step. -/
structure Carried (d : Det) (k : ℕ) (V : Valuation τ sig (Elt Ideal)) : Prop where
  valid : ∀ j, (V (Proc.devRef .tc main_v171_0) : IVec S1000 1) (ix1 j) = BitVec.ofBool (decide (d.valid j))
  iou : ∀ i j, (V (Proc.devRef .tc main_v171_1) : FVec Ideal S1000x1000 .f32) (ix2 i j) = d.iou d.mx i j
  iota : V (Proc.devRef .tc main_v171_2) = iotaInDim S1000 32 0
  index : (V (Proc.devRef .tc main_v171_4) : IVec S_ 32) ix0 = BitVec.ofNat 32 k
  keep : ∀ j, (V (Proc.devRef .tc main_v171_5) : IVec S1000 1) (ix1 j) = BitVec.ofBool (decide (d.keep k j))

theorem carried_step (d : Det) (k : ℕ) (hk : k < 1000) (V : Valuation τ sig (Elt Ideal)) (h : Carried d k V) : Carried d (k + 1) (STEP V) where
  valid := by rw [STEP_main_v171_0]; exact h.valid
  iou := by rw [STEP_main_v171_1]; exact h.iou
  iota := by rw [STEP_main_v171_2]; exact h.iota
  index := by
    rw [STEP_main_v171_4]
    unfold step_main_v171_4
    show IntOp.addi ((V (Proc.devRef .tc main_v171_4) : IVec S_ 32) ix0) 1#32 = _
    rw [h.index]
    exact (BitVec.ofNat_add k 1).symm
  keep := by
    rw [STEP_main_v171_5, step_eq V h.iota]
    exact rStep_at d _ _ _ _ ⟨k, hk⟩ h.index h.keep h.valid h.iou

theorem carried_iterate (d : Det) (V : Valuation τ sig (Elt Ideal)) (h : Carried d 0 V) : ∀ k, k ≤ 1000 → Carried d k (STEP^[k] V)
  | 0, _ => h
  | k + 1, hk => by
    rw [Function.iterate_succ_apply']
    exact carried_step d k (by omega) _ (carried_iterate d V h k (by omega))

open scoped Classical in
/-- What the loop leaves. -/
theorem kept_at (d : Det) (c : Dev nD) (h : Carried d 0 (entryContents preI m c)) (j : Fin 1000) :
    (atK m 1000 c (Proc.devRef .tc main_v171_5) : IVec S1000 1) (ix1 j) = BitVec.ofBool (decide (d.keep 1000 j)) := by
  rw [atK_agree m c 1000 main_v171_5 (by decide)]
  exact (carried_iterate d _ h 1000 le_rfl).keep j

end Cert.ReferenceIdeal.Hand

end
-- ==== Proof.RefDec.lean ====
module

public import proofs.«01_k».proof.Proof.RefNms

@[expose] public section

set_option maxRecDepth 16384

noncomputable section

/-! The reference's scores, anchors and decoded boxes at an index. -/

namespace Cert.ReferenceIdeal.Hand

open Cert.ReferenceIdeal Cert.ReferenceIdeal.Gen
open Idealize.ShloMosaic Idealize.ShloMosaic.TcCoe Idealize.ShloMosaic.Tactic
open Cert.Detect

theorem rows_at (x : FVec Ideal S4096x36 .f32) (r : Fin 36864) (c : Fin 4) :
    shapeCast S36864x4 x shapeCasts_S4096x36_S36864x4 (ix2 r c) = x (ix2 (⟨r.val / 9, by omega⟩ : Fin 4096) (⟨c.val + 4 * (r.val % 9), by omega⟩ : Fin 36)) := by
  pointwise
  congr 2
  exact Fin.ext (by show r.val % 9 * 4 + c.val = c.val + 4 * (r.val % 9); omega)
theorem rFlat_at (a2 : FVec Ideal S4096x720 .f32) (h : S4096x720.ShapeCasts S2949120) (p : Fin 2949120) :
    rFlat (rSig a2) (ix1 p) = sigm (shapeCast S2949120 a2 h (ix1 p)) := by
  unfold sigm
  pointwise [rFlat, rSig]
  rw [zero_sub]
  simp only [show p.val / 80 / 9 = p.val / 720 by omega, show p.val / 80 % 9 * 80 + p.val % 80 = p.val % 720 by omega]
theorem rCap_eq : rCap = fun _ => scaleMax := by
  funext i
  have e : Ideal.ofBits .f32 0x427A0000#32 = ((125 / 2 : ℝ) : EReal) := by
    simp [Ideal.ofBits, Ideal.ieee, -EReal.coe_mul]
    norm_num
  show Ideal.log (Ideal.ofBits .f32 0x427A0000#32) = scaleMax
  rw [e]
  show (if (125 / 2 : ℝ) ≤ 0 then ⊥ else ((Real.log (125 / 2) : ℝ) : EReal)) = scaleMax
  rw [if_neg (by norm_num)]
  rfl
theorem rDec_at (an rg : FVec Ideal S36864x4 .f32) (a4 : IVec S2 32) (r : Fin 36864) (c : Fin 4) (A R : Fin 36 → EReal) (a : Fin 9)
    (hA : ∀ c : Fin 4, an (ix2 r c) = A ⟨c.val + 4 * a.val, by omega⟩) (hR : ∀ c : Fin 4, rg (ix2 r c) = R ⟨c.val + 4 * a.val, by omega⟩) :
    rDec an rg a4 (ix2 r c) = edge A R (FloatOps.sitofp (F := Ideal) .f32 (a4 (ix1 1))) (FloatOps.sitofp (F := Ideal) .f32 (a4 (ix1 0))) a c := by
  have h0 : A ⟨0 + 4 * a.val, by omega⟩ = an (ix2 r 0) := (hA 0).symm
  have h1 : A ⟨1 + 4 * a.val, by omega⟩ = an (ix2 r 1) := (hA 1).symm
  have h2 : A ⟨2 + 4 * a.val, by omega⟩ = an (ix2 r 2) := (hA 2).symm
  have h3 : A ⟨3 + 4 * a.val, by omega⟩ = an (ix2 r 3) := (hA 3).symm
  have g0 : R ⟨0 + 4 * a.val, by omega⟩ = rg (ix2 r 0) := (hR 0).symm
  have g1 : R ⟨1 + 4 * a.val, by omega⟩ = rg (ix2 r 1) := (hR 1).symm
  have g2 : R ⟨2 + 4 * a.val, by omega⟩ = rg (ix2 r 2) := (hR 2).symm
  have g3 : R ⟨3 + 4 * a.val, by omega⟩ = rg (ix2 r 3) := (hR 3).symm
  simp only [edge, h0, h1, h2, h3, g0, g1, g2, g3, lo, hi, ctr, len]
  fin_cases c
  · pointwise [rDec, rCol, rLo, rHi, rClip, rCtr, rLen, rC0, rC1, rC2, rC3, rW, rH, rConst]
    simp only [rCap_eq]
  · pointwise [rDec, rCol, rLo, rHi, rClip, rCtr, rLen, rC0, rC1, rC2, rC3, rW, rH, rConst]
    simp only [rCap_eq]
  · pointwise [rDec, rCol, rLo, rHi, rClip, rCtr, rLen, rC0, rC1, rC2, rC3, rW, rH, rConst]
    simp only [rCap_eq]
  · pointwise [rDec, rCol, rLo, rHi, rClip, rCtr, rLen, rC0, rC1, rC2, rC3, rW, rH, rConst]
    simp only [rCap_eq]

/-- A row of the anchor array, gathered at a grid cell. -/
theorem cells_at (x : FVec Ideal S64x64x36 .f32) (idx : IVec S4096x2 32) (r : Fin 4096) (j : Fin 36) (y z : Fin 64)
    (hy : idx (ix2 r 0) = BitVec.ofNat 32 y.val) (hz : idx (ix2 r 1) = BitVec.ofNat 32 z.val) :
    Host.gather gather_S64x64x36_S4096x2_S4096x36_1_01_n_n_01_1_1136 x idx (ix2 r j) = x (ix3 y z j) := by
  unfold Host.gather
  refine congrArg x (funext fun a => Fin.ext ?_)
  have e0 : gather_S64x64x36_S4096x2_S4096x36_1_01_n_n_01_1_1136.siIdx (ix2 r j) ⟨0, by decide⟩ = ix2 r 0 := by
    funext b
    apply Fin.ext
    match b with
    | ⟨0, _⟩ => rfl
    | ⟨1, _⟩ => rfl
  have e1 : gather_S64x64x36_S4096x2_S4096x36_1_01_n_n_01_1_1136.siIdx (ix2 r j) ⟨1, by decide⟩ = ix2 r 1 := by
    funext b
    apply Fin.ext
    match b with
    | ⟨0, _⟩ => rfl
    | ⟨1, _⟩ => rfl
  match a with
  | ⟨0, _⟩ =>
    show min (idx (gather_S64x64x36_S4096x2_S4096x36_1_01_n_n_01_1_1136.siIdx (ix2 r j) ⟨0, by decide⟩)).toInt.toNat 63 + 0 + 0 = y.val
    rw [e0, hy, toInt_small (by omega)]
    simp only [Int.toNat_natCast]
    omega
  | ⟨1, _⟩ =>
    show min (idx (gather_S64x64x36_S4096x2_S4096x36_1_01_n_n_01_1_1136.siIdx (ix2 r j) ⟨1, by decide⟩)).toInt.toNat 63 + 0 + 0 = z.val
    rw [e1, hz, toInt_small (by omega)]
    simp only [Int.toNat_natCast]
    omega
  | ⟨2, _⟩ =>
    show 0 + 0 + j.val = j.val
    omega

theorem rCells_at (a1 : IVec S4096x2 32) (r : Fin 4096) (k : Fin 2) (n : ℕ) (hn : n < 64) (h : a1 (ix2 r k) = BitVec.ofNat 32 n) :
    rCells a1 (ix2 r k) = BitVec.ofNat 32 n := by
  rw [← wrap_small (n := n) (by omega) (IntOp.addi (BitVec.ofNat 32 n) 64#32), ← h]
  fin_cases k
  · pointwise [rCells, rWrap]
  · pointwise [rCells, rWrap]

/-- With the cells in order the gathered anchors are the anchor array's rows. -/
theorem rAnc_at (a0 : FVec Ideal S36x64x64 .f32) (a1 : IVec S4096x2 32) (h : S64x64x36.ShapeCasts S4096x36)
    (h0 : ∀ r : Fin 4096, a1 (ix2 r 0) = BitVec.ofNat 32 (r.val / 64)) (h1 : ∀ r : Fin 4096, a1 (ix2 r 1) = BitVec.ofNat 32 (r.val % 64))
    (r : Fin 4096) (j : Fin 36) :
    rAnc a0 a1 (ix2 r j) = shapeCast S4096x36 (transpose S64x64x36 [1, 2, 0] a0 transposes_S36x64x64_S64x64x36_1_2_0) h (ix2 r j) := by
  unfold rAnc
  rw [cells_at _ _ r j (⟨r.val / 64, by omega⟩ : Fin 64) (⟨r.val % 64, by omega⟩ : Fin 64)
    (rCells_at a1 r 0 _ (by omega) (h0 r)) (rCells_at a1 r 1 _ (by omega) (h1 r))]
  generalize transpose S64x64x36 [1, 2, 0] a0 transposes_S36x64x64_S64x64x36_1_2_0 = x
  pointwise
-- ==== Proof.RefEntry.lean ====
module

public import proofs.«01_k».proof.Proof.RefLoop
public import proofs.«01_k».proof.Proof.RefDec

@[expose] public section

set_option maxRecDepth 16384

noncomputable section

/-! The reference's buffers when its loop begins hold the candidates of the specification. -/

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Idealize.SL Idealize.SL.Sem
open Cert.Detect

theorem casts_flat : S4096x720.ShapeCasts S2949120 := by decide
theorem casts_rows : S64x64x36.ShapeCasts S4096x36 := by decide

/-- The scores in one row. -/
def flat (a2 : FVec Ideal S4096x720 .f32) (p : Fin 2949120) : EReal := shapeCast S2949120 a2 casts_flat (ix1 p)
/-- The candidates over the argument arrays. -/
def rCands (a0 : FVec Ideal S36x64x64 .f32) (a2 : FVec Ideal S4096x720 .f32) (a3 : FVec Ideal S4096x36 .f32) (a4 : IVec S2 32) : Det :=
  cands (flat a2)
    (fun r j => shapeCast S4096x36 (transpose S64x64x36 [1, 2, 0] a0 transposes_S36x64x64_S64x64x36_1_2_0) casts_rows (ix2 r j))
    (fun r j => a3 (ix2 r j)) (FloatOps.sitofp (F := Ideal) .f32 (a4 (ix1 1))) (FloatOps.sitofp (F := Ideal) .f32 (a4 (ix1 0)))

variable (a0 : FVec Ideal S36x64x64 .f32) (a1 : IVec S4096x2 32) (a2 : FVec Ideal S4096x720 .f32) (a3 : FVec Ideal S4096x36 .f32) (a4 : IVec S2 32)

/-- The 1000 best of the reference's scores. -/
def eTop : FVec Ideal S1000 .f32 × IVec S1000 32 := rTop (rFlat (rSig a2))
/-- Their boxes. -/
def eBoxes : FVec Ideal S1000x4 .f32 :=
  rBoxes (rDec (shapeCast S36864x4 (rAnc a0 a1) shapeCasts_S4096x36_S36864x4) (shapeCast S36864x4 a3 shapeCasts_S4096x36_S36864x4) a4) (eTop a2).2

theorem order_flat : order (fun p => rFlat (rSig a2) (ix1 p)) = order (flat a2) := by
  rw [← order_mono (flat a2) sigm sigm_strictMono]
  congr 1
  funext p
  exact rFlat_at a2 casts_flat p
theorem eTop_scores (i : Fin 1000) : (eTop a2).1 (ix1 i) = (rCands a0 a2 a3 a4).sc i := by
  rw [show (eTop a2).1 (ix1 i) = _ from (topK_both (rFlat (rSig a2)) sliceFits_S2949120_S1000 (by decide) i).1, order_flat]
  unfold rCands
  rw [cands_sc]
  exact rFlat_at a2 casts_flat _
theorem eTop_places (i : Fin 1000) : (eTop a2).2 (ix1 i) = BitVec.ofNat 32 (order (flat a2) (i.castLE (by decide))).val := by
  rw [show (eTop a2).2 (ix1 i) = _ from (topK_both (rFlat (rSig a2)) sliceFits_S2949120_S1000 (by decide) i).2, order_flat]
theorem eLabs (i : Fin 1000) : rLabs (eTop a2).2 (ix1 i) = (rCands a0 a2 a3 a4).lab i := by
  unfold rCands
  rw [cands_lab]
  exact rLabs_at _ _ i (eTop_places a2 i)

variable (h0 : ∀ r : Fin 4096, a1 (ix2 r 0) = BitVec.ofNat 32 (r.val / 64)) (h1 : ∀ r : Fin 4096, a1 (ix2 r 1) = BitVec.ofNat 32 (r.val % 64))
include h0 h1

theorem dec_at (q : Fin 2949120) (c : Fin 4) :
    rDec (shapeCast S36864x4 (rAnc a0 a1) shapeCasts_S4096x36_S36864x4) (shapeCast S36864x4 a3 shapeCasts_S4096x36_S36864x4) a4
        (ix2 (⟨q.val / 80, by omega⟩ : Fin 36864) c)
      = edge (fun j => shapeCast S4096x36 (transpose S64x64x36 [1, 2, 0] a0 transposes_S36x64x64_S64x64x36_1_2_0) casts_rows (ix2 (⟨q.val / 720, by omega⟩ : Fin 4096) j))
        (fun j => a3 (ix2 (⟨q.val / 720, by omega⟩ : Fin 4096) j)) (FloatOps.sitofp (F := Ideal) .f32 (a4 (ix1 1))) (FloatOps.sitofp (F := Ideal) .f32 (a4 (ix1 0)))
        ⟨q.val % 720 / 80, by omega⟩ c := by
  have er : q.val / 80 / 9 = q.val / 720 := by omega
  have ea : q.val / 80 % 9 = q.val % 720 / 80 := by omega
  refine rDec_at _ _ a4 _ c _ _ ⟨q.val % 720 / 80, by omega⟩ (fun k => ?_) (fun k => ?_)
  · rw [rows_at, rAnc_at a0 a1 casts_rows h0 h1]
    simp only [er, ea]
  · rw [rows_at]
    simp only [er, ea]

theorem eBoxes_at (i : Fin 1000) (c : Fin 4) : eBoxes a0 a1 a2 a3 a4 (ix2 i c) = (rCands a0 a2 a3 a4).box c i := by
  unfold rCands
  rw [cands_box]
  have hp := eTop_places a2 i
  generalize order (flat a2) (i.castLE (by decide)) = q at hp ⊢
  exact (rBoxes_at _ _ _ i c hp).trans (dec_at a0 a1 a3 a4 h0 h1 q c)

omit h0 h1

variable (m : (ℓ : Loc nD τ sig) → Buf (Elt Ideal) ℓ) (c : Dev nD)

/-- The contents before the last stretch but its first operations, and after its middle ones. -/
def V8 : Valuation τ sig (Elt Ideal) := after ((hostOps0_8 (F := Ideal)).take 5) (V7 (launchContents m c))
@[inherit_doc V8]
def V9 : Valuation τ sig (Elt Ideal) := after opsB (V8 m c)

theorem entry_eq : entryContents preI m c = after opsC (V9 m c) := by
  show after (hostOps0_8 (F := Ideal)) (V7 (launchContents m c)) = _
  rw [after_cut 5, after_cut 31]
  rfl

theorem V8_v25 : V8 m c (Proc.devRef .tc main_v25) = rSig (m ((c : Thread nD τ).loc main_arg2)) := s_v25' _
theorem V8_v94 : V8 m c (Proc.devRef .tc main_v95) =
    rDec (shapeCast S36864x4 (rAnc (m ((c : Thread nD τ).loc main_arg0)) (m ((c : Thread nD τ).loc main_arg1))) shapeCasts_S4096x36_S36864x4)
      (shapeCast S36864x4 (m ((c : Thread nD τ).loc main_arg3)) shapeCasts_S4096x36_S36864x4) (m ((c : Thread nD τ).loc main_arg4)) := s_v94 _

theorem entry_values : entryContents preI m c (Proc.devRef .tc main_values) = (eTop (m ((c : Thread nD τ).loc main_arg2))).1 := by
  rw [entry_eq, c_kept _ _ (by decide), V9, b_values, V8_v25]; rfl
theorem entry_valid : entryContents preI m c (Proc.devRef .tc main_v110) = rValid (eTop (m ((c : Thread nD τ).loc main_arg2))).1 := by
  rw [entry_eq, c_kept _ _ (by decide), V9, b_valid, V8_v25]; rfl
theorem entry_labs : entryContents preI m c (Proc.devRef .tc main_v108) = rLabs (eTop (m ((c : Thread nD τ).loc main_arg2))).2 := by
  rw [entry_eq, c_kept _ _ (by decide), V9, b_labs, V8_v25]; rfl
theorem entry_boxes : entryContents preI m c (Proc.devRef .tc main_v105) =
    eBoxes (m ((c : Thread nD τ).loc main_arg0)) (m ((c : Thread nD τ).loc main_arg1)) (m ((c : Thread nD τ).loc main_arg2)) (m ((c : Thread nD τ).loc main_arg3)) (m ((c : Thread nD τ).loc main_arg4)) := by
  rw [entry_eq, c_kept _ _ (by decide), V9, b_boxes, V8_v25, V8_v94]; rfl
theorem entry_moved : V9 m c (Proc.devRef .tc main_v117) =
    rMoved (eBoxes (m ((c : Thread nD τ).loc main_arg0)) (m ((c : Thread nD τ).loc main_arg1)) (m ((c : Thread nD τ).loc main_arg2)) (m ((c : Thread nD τ).loc main_arg3)) (m ((c : Thread nD τ).loc main_arg4)))
      (rLabs (eTop (m ((c : Thread nD τ).loc main_arg2))).2) := by
  rw [V9, b_moved, V8_v25, V8_v94]; rfl

/-- The candidates over the buffers. -/
def dCands : Det := rCands (m ((c : Thread nD τ).loc main_arg0)) (m ((c : Thread nD τ).loc main_arg2)) (m ((c : Thread nD τ).loc main_arg3)) (m ((c : Thread nD τ).loc main_arg4))

variable (g0 : ∀ r : Fin 4096, (m ((c : Thread nD τ).loc main_arg1) : IVec S4096x2 32) (ix2 r 0) = BitVec.ofNat 32 (r.val / 64))
  (g1 : ∀ r : Fin 4096, (m ((c : Thread nD τ).loc main_arg1) : IVec S4096x2 32) (ix2 r 1) = BitVec.ofNat 32 (r.val % 64))
include g0 g1

theorem carried_entry : Carried (dCands m c) 0 (entryContents preI m c) where
  valid := by
    intro j
    rw [entry_eq, c_valid, V9, b_valid, V8_v25]
    classical
    exact rValid_at _ _ (fun i => eTop_scores _ _ _ _ i) j
  iou := by
    intro i j
    rw [entry_eq, c_iou, entry_moved]
    refine rIou_at _ _ (fun i k => ?_) i j
    exact rMoved_at _ _ _ (fun i k => eBoxes_at _ _ _ _ _ g0 g1 i k) (fun i => eLabs _ _ _ _ i) i k
  iota := by rw [entry_eq, c_iota]
  index := by rw [entry_eq, c_index]; rfl
  keep := by
    intro j
    rw [entry_eq, c_keep]
    classical
    show 1#1 = _
    rw [decide_eq_true (show (dCands m c).keep 0 j from trivial)]
    rfl

end Cert.ReferenceIdeal.Hand

end
-- ==== Proof.RefPost.lean ====
module

public import proofs.«01_k».proof.Proof.RefEntry

@[expose] public section

set_option maxRecDepth 16384

noncomputable section

/-! The reference's result: the detections of the specification. -/

namespace Cert.ReferenceIdeal.Hand

open Cert.ReferenceIdeal Cert.ReferenceIdeal.Gen Cert.ReferenceIdeal.Value
open Idealize.ShloMosaic Idealize.ShloMosaic.TcCoe Idealize.ShloMosaic.Tactic Idealize.ShloMosaic.StableHlo
open Idealize.SL Idealize.SL.Sem
open Cert.Detect

/-- The scores of the candidates that are kept, minus infinity for the others. -/
def rFinal (keep valid : IVec S1000 1) (s : FVec Ideal S1000 .f32) : FVec Ideal S1000 .f32 := select (andi keep valid) s (rNums 0xFF800000#32)
/-- The 100 best of them, and their places. -/
def rBest (x : FVec Ideal S1000 .f32) : FVec Ideal S100 .f32 × IVec S100 32 :=
  Host.topK S100 0 (FloatOps.cmpfTotal (F := Ideal) (φ := .f32) CmpDirection.gt) x sliceFits_S1000_S100
/-- A number for every detection. -/
def rEach (b : BitVec 32) : FVec Ideal S100 .f32 := broadcastInDim S100 ![] bcast_S_S100 (constant (F := Ideal) S_ .f32 b)
/-- A word for every detection. -/
def rEachW (b : BitVec 32) : IVec S100 32 := broadcastInDim S100 ![] bcast_S_S100 (constantI S_ 32 b)
/-- The places, negative ones counted from the end, as a column. -/
def rPlaces (p : IVec S100 32) : IVec S100x1 32 :=
  broadcastInDim S100x1 ![0] bcast_S100_S100x1_0 (select (cmpi .slt p (rEachW 0#32)) (addi p (rEachW 1000#32)) p)
/-- Which detections have a finite score. -/
def rOk (s : FVec Ideal S100 .f32) : IVec S100 1 := cmpf .olt (Host.absf s) (rEach 0x7F800000#32)
/-- The result, of the best scores, their boxes and their classes, where `ok` holds. -/
def rRows (ok : IVec S100 1) (s : FVec Ideal S100 .f32) (b : FVec Ideal S100x4 .f32) (l : FVec Ideal S100 .f32) : FVec Ideal S100x6 .f32 :=
  concatenate S100x6 1
    [⟨S100x4, select (broadcastInDim S100x4 ![0, 1] bcast_S100x1_S100x4_0_1 (broadcastInDim S100x1 ![0] bcast_S100_S100x1_0 ok)) b
        (broadcastInDim S100x4 ![] bcast_S_S100x4 (constant (F := Ideal) S_ .f32 0x00000000#32))⟩,
     ⟨S100x1, broadcastInDim S100x1 ![0] bcast_S100_S100x1_0 (select ok s (rEach 0x00000000#32))⟩,
     ⟨S100x1, broadcastInDim S100x1 ![0] bcast_S100_S100x1_0 (select ok l (rEach 0xBF800000#32))⟩]
    concatenates_S100x4_S100x1_S100x1_S100x6_d1
/-- The result, of the scores, the boxes and the classes of all candidates. -/
def rOut (x : FVec Ideal S1000 .f32) (b : FVec Ideal S1000x4 .f32) (l : FVec Ideal S1000 .f32) : FVec Ideal S100x6 .f32 :=
  rRows (rOk (rBest x).1) (rBest x).1 (Host.gather gather_S1000x4_S100x1_S100x4_1_0_n_n_0_1_14 b (rPlaces (rBest x).2))
    (Host.gather gather_S1000_S100x1_S100_n_0_n_n_0_1_1 l (rPlaces (rBest x).2))

variable (V : Valuation τ sig (Elt Ideal))

theorem p_final : after hostOps0_10 (after hostOps0_9 V) (Proc.devRef .tc main_v173) =
    rFinal (V (Proc.devRef .tc main_v171_5)) (V (Proc.devRef .tc main_v110)) (V (Proc.devRef .tc main_values)) := by
  after_reads_simp
  rfl
theorem p_scores : after hostOps0_11 V (Proc.devRef .tc main_values_31) = (rBest (V (Proc.devRef .tc main_v173))).1 := by
  after_reads_simp
  rfl
theorem p_ok : after hostOps0_11 V (Proc.devRef .tc main_v190) = rOk (rBest (V (Proc.devRef .tc main_v173))).1 := by
  after_reads_simp
  rfl
theorem p_boxes : after hostOps0_11 V (Proc.devRef .tc main_v180) =
    Host.gather gather_S1000x4_S100x1_S100x4_1_0_n_n_0_1_14 (V (Proc.devRef .tc main_v105)) (rPlaces (rBest (V (Proc.devRef .tc main_v173))).2) := by
  after_reads_simp
  rfl
theorem p_labs : after hostOps0_11 V (Proc.devRef .tc main_v187) =
    Host.gather gather_S1000_S100x1_S100_n_0_n_n_0_1_1 (V (Proc.devRef .tc main_v108)) (rPlaces (rBest (V (Proc.devRef .tc main_v173))).2) := by
  after_reads_simp
  rfl
theorem p_cst : after hostOps0_11 V (Proc.devRef .tc main_cst_38) = constant (F := Ideal) S_ .f32 0x00000000#32 := by
  after_reads_simp
theorem p_join : after hostOps0_17 V (Proc.devRef .tc main_v197) =
    concatenate S100x6 1
      [⟨S100x4, (V (Proc.devRef .tc main_v193) : FVec Ideal S100x4 .f32)⟩,
       ⟨S100x1, broadcastInDim S100x1 ![0] bcast_S100_S100x1_0 (V (Proc.devRef .tc main_v191) : FVec Ideal S100 .f32)⟩,
       ⟨S100x1, broadcastInDim S100x1 ![0] bcast_S100_S100x1_0 (V (Proc.devRef .tc main_v194) : FVec Ideal S100 .f32)⟩]
      concatenates_S100x4_S100x1_S100x1_S100x6_d1 := by
  after_results
  rfl
theorem p_c0 : after hostOps0_16 (after hostOps0_15 (after hostOps0_14 (after hostOps0_13 (after hostOps0_12 V)))) (Proc.devRef .tc main_v193) =
    select (broadcastInDim S100x4 ![0, 1] bcast_S100x1_S100x4_0_1 (broadcastInDim S100x1 ![0] bcast_S100_S100x1_0 (V (Proc.devRef .tc main_v190) : IVec S100 1)))
      (V (Proc.devRef .tc main_v180) : FVec Ideal S100x4 .f32) (broadcastInDim S100x4 ![] bcast_S_S100x4 (constant (F := Ideal) S_ .f32 0x00000000#32)) := by
  after_reads_simp
  rfl
theorem p_c1 (hz : V (Proc.devRef .tc main_cst_38) = constant (F := Ideal) S_ .f32 0x00000000#32) :
    after hostOps0_16 (after hostOps0_15 (after hostOps0_14 (after hostOps0_13 (after hostOps0_12 V)))) (Proc.devRef .tc main_v191) =
    select (V (Proc.devRef .tc main_v190) : IVec S100 1) (V (Proc.devRef .tc main_values_31) : FVec Ideal S100 .f32) (rEach 0x00000000#32) := by
  after_reads_simp
  rw [hz]
  rfl
theorem p_c2 : after hostOps0_16 (after hostOps0_15 (after hostOps0_14 (after hostOps0_13 (after hostOps0_12 V)))) (Proc.devRef .tc main_v194) =
    select (V (Proc.devRef .tc main_v190) : IVec S100 1) (V (Proc.devRef .tc main_v187) : FVec Ideal S100 .f32) (rEach 0xBF800000#32) := by
  after_reads_simp
  rfl
theorem p_rows (hz : V (Proc.devRef .tc main_cst_38) = constant (F := Ideal) S_ .f32 0x00000000#32) :
    after hostOps0_17 (after hostOps0_16 (after hostOps0_15 (after hostOps0_14 (after hostOps0_13 (after hostOps0_12 V))))) (Proc.devRef .tc main_v197) =
    rRows (V (Proc.devRef .tc main_v190)) (V (Proc.devRef .tc main_values_31)) (V (Proc.devRef .tc main_v180)) (V (Proc.devRef .tc main_v187)) := by
  rw [p_join, p_c0, p_c1 _ hz, p_c2]
  rfl
theorem p_kept (r : Ref sig .tc) (hr : r ∈ [main_v105, main_v108]) : after hostOps0_10 (after hostOps0_9 V) (Proc.devRef .tc r) = V (Proc.devRef .tc r) := by
  simp only [List.mem_cons, List.not_mem_nil, or_false] at hr
  rcases hr with rfl | rfl <;> after_reads_simp

theorem post_out : afterL postI V (Proc.devRef .tc main_v197) =
    rOut (rFinal (V (Proc.devRef .tc main_v171_5)) (V (Proc.devRef .tc main_v110)) (V (Proc.devRef .tc main_values)))
      (V (Proc.devRef .tc main_v105)) (V (Proc.devRef .tc main_v108)) := by
  simp only [postI, afterL_cons, afterL_nil]
  rw [p_rows _ (p_cst _), p_ok, p_scores, p_boxes, p_labs, p_final, p_kept _ _ (by decide), p_kept _ _ (by decide)]
  rfl

section index

variable (d : Det) (keep valid : IVec S1000 1) (s : FVec Ideal S1000 .f32) (b : FVec Ideal S1000x4 .f32) (l : FVec Ideal S1000 .f32)

open scoped Classical in
theorem rFinal_at (hk : ∀ j, keep (ix1 j) = BitVec.ofBool (decide (d.keep 1000 j))) (hv : ∀ j, valid (ix1 j) = BitVec.ofBool (decide (d.valid j)))
    (hs : ∀ j, s (ix1 j) = d.sc j) (j : Fin 1000) : rFinal keep valid s (ix1 j) = d.final j := by
  have e : rFinal keep valid s (ix1 j) = Scalar.select (IntOp.andi (keep (ix1 j)) (valid (ix1 j))) (s (ix1 j)) (Ideal.ofBits .f32 0xFF800000#32) := by
    unfold rFinal rNums; pointwise
  have hbot : Ideal.ofBits .f32 0xFF800000#32 = (⊥ : EReal) := by simp [Ideal.ofBits, Ideal.ieee]
  rw [e, hk, hv, hs, hbot]
  unfold Det.final
  by_cases h1 : d.keep 1000 j <;> by_cases h2 : d.valid j <;> simp [h1, h2, IntOp.andi, Scalar.select]

open scoped Classical in
theorem rOk_at (x : FVec Ideal S100 .f32) (n : Fin 100) (v : EReal) (hx : x (ix1 n) = v) (hv : v = ⊥ ∨ (0 ≤ v ∧ v ≤ 1)) :
    rOk x (ix1 n) = BitVec.ofBool (decide (¬ v = ⊥)) := by
  have e : rOk x (ix1 n) = FloatOps.cmpf (F := Ideal) (φ := .f32) .olt (FloatOps.absf (F := Ideal) (φ := .f32) (x (ix1 n))) (Ideal.ofBits .f32 0x7F800000#32) := by
    unfold rOk rEach; pointwise
  have htop : Ideal.ofBits .f32 0x7F800000#32 = (⊤ : EReal) := by simp [Ideal.ofBits, Ideal.ieee]
  rw [e, hx, htop]
  show BitVec.ofBool (decide (max v (-v) < ⊤)) = _
  congr 2
  rcases hv with rfl | ⟨h0, h1⟩
  · simp
  · have hb : v ≠ ⊥ := fun h => by rw [h] at h0; exact absurd h0 (by simp)
    have ht : v < ⊤ := h1.trans_lt (EReal.coe_lt_top 1)
    have hn : -v ≤ 0 := by simpa using EReal.neg_le_neg_iff.2 h0
    simp only [hb, not_false_eq_true, max_lt_iff, ht, true_and, eq_iff_iff, iff_true]
    exact hn.trans_lt (EReal.coe_lt_top 0)

theorem rPlaces_at (p : IVec S100 32) (n : Fin 100) (q : Fin 1000) (h : p (ix1 n) = BitVec.ofNat 32 q.val) : rPlaces p (ix2 n 0) = BitVec.ofNat 32 q.val := by
  rw [← wrap_small (n := q.val) (by omega) (IntOp.addi (BitVec.ofNat 32 q.val) 1000#32), ← h]
  unfold rPlaces rEachW
  pointwise

theorem rRows_at (ok : IVec S100 1) (x : FVec Ideal S100 .f32) (b : FVec Ideal S100x4 .f32) (l : FVec Ideal S100 .f32) (n : Fin 100) (c : Fin 6) :
    rRows ok x b l (ix2 n c) =
      if h : c.val < 4 then Scalar.select (ok (ix1 n)) (b (ix2 n ⟨c.val, h⟩)) 0
      else if c.val < 5 then Scalar.select (ok (ix1 n)) (x (ix1 n)) 0
      else Scalar.select (ok (ix1 n)) (l (ix1 n)) (Ideal.ofBits .f32 0xBF800000#32) := by
  fin_cases c <;> pointwise [rRows, rEach] <;> simp

theorem rOut_at (x : FVec Ideal S1000 .f32) (hx : ∀ j, x (ix1 j) = d.final j) (hb : ∀ i c, b (ix2 i c) = d.box c i) (hl : ∀ i, l (ix1 i) = d.lab i)
    (h01 : ∀ i, 0 ≤ d.sc i ∧ d.sc i ≤ 1) (n : Fin 100) (c : Fin 6) : rOut x b l (ix2 n c) = d.out n c := by
  classical
  have ho : order (fun p => x (ix1 p)) = order d.final := congrArg order (funext hx)
  obtain ⟨hs, hp⟩ := topK_both x sliceFits_S1000_S100 (by decide) n
  rw [ho] at hs hp
  rw [hx] at hs
  unfold Det.out Det.pick
  dsimp only
  generalize order d.final (n.castLE _) = q at hs hp ⊢
  have hv : d.final q = ⊥ ∨ (0 ≤ d.final q ∧ d.final q ≤ 1) := by
    unfold Det.final
    split
    · exact Or.inr (h01 q)
    · exact Or.inl rfl
  have hg : Host.gather gather_S1000_S100x1_S100_n_0_n_n_0_1_1 l (rPlaces (rBest x).2) (ix1 n) = d.lab q := by
    rw [← hl]
    exact Routing.gather_take1 _ rfl rfl rfl rfl l _ n q (rPlaces_at _ n q hp) (by decide)
  have hm : ∀ k : Fin 4, Host.gather gather_S1000x4_S100x1_S100x4_1_0_n_n_0_1_14 b (rPlaces (rBest x).2) (ix2 n k) = d.box k q := fun k => by
    rw [← hb]
    exact Routing.gather_row _ rfl rfl rfl rfl rfl b _ n k q (rPlaces_at _ n q hp) (by decide)
  have hneg : Ideal.ofBits .f32 0xBF800000#32 = (-1 : EReal) := by simp [Ideal.ofBits, Ideal.ieee, -EReal.coe_mul]; norm_num
  unfold rOut
  rw [rRows_at, rOk_at (rBest x).1 n _ hs hv, hg, hneg, show (rBest x).1 (ix1 n) = d.final q from hs]
  simp only [hm]
  by_cases h : d.final q = ⊥
  · by_cases h4 : c.val < 4 <;> by_cases h5 : c.val < 5 <;> simp [h, h4, h5, Scalar.select] <;> omega
  · by_cases h4 : c.val < 4 <;> by_cases h5 : c.val < 5 <;> simp [h, h4, h5, Scalar.select]
end index

variable (m : (ℓ : Loc nD τ sig) → Buf (Elt Ideal) ℓ) (c : Dev nD)

/-- The reference's result over its argument arrays. -/
theorem result_at (g0 : ∀ r : Fin 4096, (m ((c : Thread nD τ).loc main_arg1) : IVec S4096x2 32) (ix2 r 0) = BitVec.ofNat 32 (r.val / 64))
    (g1 : ∀ r : Fin 4096, (m ((c : Thread nD τ).loc main_arg1) : IVec S4096x2 32) (ix2 r 1) = BitVec.ofNat 32 (r.val % 64)) (n : Fin 100) (k : Fin 6) :
    (finalContents condOps preI bodyI postI 1000 m c (Proc.devRef .tc main_v197) : FVec Ideal S100x6 .f32) (ix2 n k) = (dCands m c).out n k := by
  have e : finalContents condOps preI bodyI postI 1000 m c = afterL postI (after condOps (atK m 1000 c)) := rfl
  have hc : ∀ r : Ref sig .tc, r ∉ condOps_W → after condOps (atK m 1000 c) (Proc.devRef .tc r) = atK m 1000 c (Proc.devRef .tc r) :=
    fun r hr => after_of_writes_sub condOps _ condOps_writes hr
  rw [e, post_out, hc main_v171_5 (by decide +kernel), hc main_v110 (by decide +kernel), hc main_values (by decide +kernel), hc main_v105 (by decide +kernel),
    hc main_v108 (by decide +kernel), atK_keep m main_v110 (by decide +kernel) (by decide +kernel) c 1000, atK_keep m main_values (by decide +kernel) (by decide +kernel) c 1000,
    atK_keep m main_v105 (by decide +kernel) (by decide +kernel) c 1000, atK_keep m main_v108 (by decide +kernel) (by decide +kernel) c 1000,
    entry_valid, entry_values, entry_boxes, entry_labs]
  classical
  have hs : ∀ i, (eTop (m ((c : Thread nD τ).loc main_arg2))).1 (ix1 i) = (dCands m c).sc i := fun i => eTop_scores _ _ _ _ i
  refine rOut_at (dCands m c) _ _ _ (rFinal_at (dCands m c) _ _ _ (fun j => ?_) (fun j => rValid_at _ _ hs j) hs)
    (fun i k => eBoxes_at _ _ _ _ _ g0 g1 i k) (fun i => eLabs _ _ _ _ i) (fun i => ⟨sigm_nonneg _, sigm_le_one _⟩) n k
  rw [kept_at m (dCands m c) c (carried_entry m c g0 g1) j]

end Cert.ReferenceIdeal.Hand

end
-- ==== Proof.PreRead.lean ====
module

public import proofs.«01_k».proof.Pre_grid_coords
public import Idealize.ShloMosaic.Lib.Pointwise
public import Idealize.ShloMosaic.Lib.Affine
public import Idealize.ShloMosaic.PureOps.Ideal

@[expose] public section

set_option maxRecDepth 16384

noncomputable section

/-! What the precondition says of the argument arrays: the cells are in order. -/

namespace Cert.Pre_grid_coords.Hand

open Cert.Pre_grid_coords
open Idealize.ShloMosaic Idealize.ShloMosaic.Tactic

theorem facts : Facts where
  bcast_S_S4096x2 := by decide

theorem word_div (n : ℕ) (h : n < 4096) : IntOp.divsi .host (BitVec.ofNat 32 n) 64#32 = BitVec.ofNat 32 (n / 64) := by
  have e : IntOp.divsi .host (BitVec.ofNat 32 n) 64#32 = (BitVec.ofNat 32 n).sdiv 64#32 := by simp [IntOp.divsi, IntOp.SDivCorner]
  have hm : (BitVec.ofNat 32 n).msb = false := by rw [BitVec.msb_eq_decide, BitVec.toNat_ofNat, Nat.mod_eq_of_lt (by omega)]; simp; omega
  rw [e, BitVec.sdiv_eq, hm, show (64#32 : BitVec 32).msb = false from by decide]
  apply BitVec.eq_of_toNat_eq
  show (BitVec.udiv _ _).toNat = _
  rw [BitVec.udiv_eq, BitVec.toNat_udiv, BitVec.toNat_ofNat, BitVec.toNat_ofNat, Nat.mod_eq_of_lt (by omega)]
  show n / 64 = _
  rw [BitVec.toNat_ofNat, Nat.mod_eq_of_lt (by omega)]

theorem word_mod (n : ℕ) (h : n < 4096) : IntOp.remsi .host (BitVec.ofNat 32 n) 64#32 = BitVec.ofNat 32 (n % 64) := by
  apply BitVec.eq_of_toNat_eq
  have hn : (BitVec.ofNat 32 n).toNat = n := by rw [BitVec.toNat_ofNat]; exact Nat.mod_eq_of_lt (by omega)
  have e := IntOp.toNat_remsi .host (x := BitVec.ofNat 32 n) (by rw [hn]; omega) 64 (by decide) (by decide)
  rw [hn] at e
  rw [BitVec.toNat_ofNat (n % 64), Nat.mod_eq_of_lt (a := n % 64) (by omega)]
  exact e

variable [Facts] (a0 : FVec Ideal S36x64x64 .f32) (a1 : IVec S4096x2 32) (a2 : FVec Ideal S4096x720 .f32) (a3 : FVec Ideal S4096x36 .f32) (a4 : IVec S2 32)
  (h : fn (F := Ideal) a0 a1 a2 a3 a4 = fun _ => 1#1)
include h

theorem rows (r : Fin 4096) : a1 (ix2 r 0) = BitVec.ofNat 32 (r.val / 64) := by
  rw [← word_div _ r.isLt]
  refine IntOp.cmpi_eq.1 ?_
  rw [← congrFun h (ix2 r 0)]
  pointwise [fn]

theorem cols (r : Fin 4096) : a1 (ix2 r 1) = BitVec.ofNat 32 (r.val % 64) := by
  rw [← word_mod _ r.isLt]
  refine IntOp.cmpi_eq.1 ?_
  rw [← congrFun h (ix2 r 1)]
  pointwise [fn]
  rfl

end Cert.Pre_grid_coords.Hand

end
-- ==== Proof.lean ====
module

public import proofs.«01_k».proof.Defs
public import proofs.«01_k».proof.Proof.LaunchKernel
public import proofs.«01_k».proof.Proof.LaunchKernelIdeal
public import proofs.«01_k».proof.Proof.KernelEnd
public import proofs.«01_k».proof.Proof.RefPost
public import proofs.«01_k».proof.Proof.PreRead

@[expose] public section

noncomputable section

/-! The certificate's claims. -/

namespace Cert.Proof

open Idealize.ShloMosaic Idealize.ShloMosaic.TcCoe Idealize.ShloMosaic.StableHlo Idealize.SL Idealize.SL.Sem

attribute [local instance] Cert.Pre_grid_coords.Hand.facts Cert.KernelIdeal.Gen.facts Cert.ReferenceIdeal.Gen.facts

/-- Both results are the specification's detections. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hP : Cert.Pre_KernelIdeal_grid_coords m)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (finalContents Cert.ReferenceIdeal.Value.condOps Cert.ReferenceIdeal.Value.preI Cert.ReferenceIdeal.Value.bodyI Cert.ReferenceIdeal.Value.postI 1000 m' c (Proc.devRef .tc Cert.ReferenceIdeal.main_v197) : FVec Ideal Cert.KernelIdeal.S100x6 .f32)
      = Cert.KernelIdeal.Hand.kResult (m ((c.tc : Thread Cert.KernelIdeal.nD Cert.KernelIdeal.τ).loc Cert.KernelIdeal.main_arg0)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  funext j
  obtain ⟨n, k, rfl⟩ : ∃ (n : Fin 100) (k : Fin 6), j = ix2 n k := ⟨j 0, j 1, eq_ix2 j⟩
  have hr := Cert.Pre_grid_coords.Hand.rows _ _ _ _ _ (hP c)
  have hc := Cert.Pre_grid_coords.Hand.cols _ _ _ _ _ (hP c)
  have hd : Cert.ReferenceIdeal.Hand.dCands m' c = Cert.KernelIdeal.Hand.aCands
      (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
    unfold Cert.ReferenceIdeal.Hand.dCands
    rw [e0, e2, e3, e4]
    rfl
  rw [Cert.KernelIdeal.Hand.kResult_at _ _ _ _ n k, ← hd]
  exact Cert.ReferenceIdeal.Hand.result_at m' c (fun r => (congrFun e1 _).trans (hr r)) (fun r => (congrFun e1 _).trans (hc r)) n k

theorem claim : Cert.Claim := ⟨Cert.Kernel.Gen.facts, Cert.KernelIdeal.Gen.facts, Cert.ReferenceIdeal.Gen.facts, Cert.Pre_grid_coords.Hand.facts,
  fun m ρ _ => Cert.Kernel.Hand.frame m ρ,
  fun m ρ _ => Cert.KernelIdeal.Hand.frame m ρ,
  fun m ρ _ => Cert.KernelIdeal.Hand.frame m ρ,
  fun m ρ _ => (θ_run _ _ _).mono (fun _ h => ⟨fun c => (h.1 c).2, h.2⟩) (Cert.ReferenceIdeal.Hand.run m ρ),
  fun m ρ _ => (θ_run _ _ _).mono (fun _ h => ⟨fun c => (h.1 c).2, h.2⟩) (Cert.ReferenceIdeal.Hand.run m ρ),
  IdealRules.named_const.statement Cert.KernelIdeal.κ "dw_clip" .f32 0x40845349#32 ((Real.log (125 / 2) : ℝ) : EReal) rfl,
  fun m g m' g' hP hA => ⟨_, Cert.KernelIdeal.Hand.value m g,
    (θ_run _ _ _).mono (fun _ h c => ⟨(h.1 c).1.trans
      (results_agree m m' c hP (hA c).1 (hA c).2.1 (hA c).2.2.1 (hA c).2.2.2.1 (hA c).2.2.2.2), (h.1 c).2⟩) (Cert.ReferenceIdeal.Hand.run m' g')⟩⟩

end Cert.Proof

end
